-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x10000 : Shape := ⟨2, ![10000, 10000]⟩
abbrev S10000x128 : Shape := ⟨2, ![10000, 128]⟩
abbrev S8 : Shape := ⟨1, ![8]⟩
abbrev S400x10000 : Shape := ⟨2, ![400, 10000]⟩
abbrev S400x128 : Shape := ⟨2, ![400, 128]⟩
abbrev S1000x10000 : Shape := ⟨2, ![1000, 10000]⟩
abbrev S1000x128 : Shape := ⟨2, ![1000, 128]⟩
abbrev S2x10000x128 : Shape := ⟨3, ![2, 10000, 128]⟩
abbrev S2 : Shape := ⟨1, ![2]⟩
abbrev S1 : Shape := ⟨1, ![1]⟩
abbrev S_ : Shape := ⟨0, ![]⟩
abbrev S1x10000x128 : Shape := ⟨3, ![1, 10000, 128]⟩
abbrev S1x1000x128 : Shape := ⟨3, ![1, 1000, 128]⟩

abbrev nBuf : Space → Nat
  | .hbm => 7
  | .vmem => 13
  | .smem => 1
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S8, .f32⟩
  | .hbm, ⟨3, _⟩ => ⟨S10000x128, .bf16⟩
  | .hbm, ⟨4, _⟩ => ⟨S10000x10000, .bf16⟩
  | .hbm, ⟨5, _⟩ => ⟨S10000x128, .bf16⟩
  | .hbm, ⟨6, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x10000, .bf16⟩
  | .local _ .vmem, ⟨4, _⟩ => ⟨S400x10000, .bf16⟩
  | .local _ .vmem, ⟨5, _⟩ => ⟨S400x128, .bf16⟩
  | .local _ .vmem, ⟨6, _⟩ => ⟨S400x128, .bf16⟩
  | .local _ .vmem, ⟨7, _⟩ => ⟨S1000x10000, .bf16⟩
  | .local _ .vmem, ⟨8, _⟩ => ⟨S1000x10000, .bf16⟩
  | .local _ .vmem, ⟨9, _⟩ => ⟨S1000x128, .f32⟩
  | .local _ .vmem, ⟨10, _⟩ => ⟨S1000x128, .f32⟩
  | .local _ .vmem, ⟨11, _⟩ => ⟨S2x10000x128, .bf16⟩
  | .local _ .vmem, ⟨12, _⟩ => ⟨S10000x128, .f32⟩
  | .local _ .smem, ⟨0, _⟩ => ⟨S8, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc1_scratch1 : Ref sig .tc := ⟨.vmem, 12, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![6, 10], ![false, false]⟩

def k1_off1 (i : grid1.Coords) : Fin 3 → Nat :=
  let c1_i32_6 : BitVec 32 := 1#32
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v15 : BitVec 32 := Scalar.subi c1_i32_6 v14
  let v28 : Index := Scalar.indexCast v15
  let c0_14 : Index := 0#32
  let c0_15 : Index := 0#32
  ![v28.toNat, 0, 0]
def k1_off2 (i : grid1.Coords) : Fin 3 → Nat :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let v33 : Index := Scalar.indexCast v25
  let arg1 : BitVec 32 := BitVec.ofNat 32 (i 1).val
  let c1000_i32 : BitVec 32 := 1000#32
  let v32 : BitVec 32 := Scalar.muli arg1 c1000_i32
  let v34 : Index := Scalar.indexCast v32
  let c0_16 : Index := 0#32
  ![v33.toNat, v34.toNat, 0]
def k1_cond2 (i : grid1.Coords) : BitVec 1 :=
  let arg0 : BitVec 32 := BitVec.ofNat 32 (i 0).val
  let c0_i32_19 : BitVec 32 := 0#32
  let v47 : BitVec 1 := Scalar.cmpi .eq arg0 c0_i32_19
  let v48 : BitVec 32 := Scalar.extui v47
  let c0_i32_20 : BitVec 32 := 0#32
  let v49 : BitVec 1 := Scalar.cmpi .ne v48 c0_i32_20
  v49

def k1_off3 (i : grid1.Coords) : Fin 3 → Nat :=
  let c1_i32_6 : BitVec 32 := 1#32
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v15 : BitVec 32 := Scalar.subi c1_i32_6 v14
  let v60 : Index := Scalar.indexCast v15
  let arg1 : BitVec 32 := BitVec.ofNat 32 (i 1).val
  let c1000_i32 : BitVec 32 := 1000#32
  let v32 : BitVec 32 := Scalar.muli arg1 c1000_i32
  let v61 : Index := Scalar.indexCast v32
  let c0_25 : Index := 0#32
  ![v60.toNat, v61.toNat, 0]
def k1_off4 (i : grid1.Coords) : Fin 2 → Nat :=
  let arg1 : BitVec 32 := BitVec.ofNat 32 (i 1).val
  let c1000_i32 : BitVec 32 := 1000#32
  let v32 : BitVec 32 := Scalar.muli arg1 c1000_i32
  let v72 : Index := Scalar.indexCast v32
  let c0_26 : Index := 0#32
  ![v72.toNat, 0]
def k1_cond3 (i : grid1.Coords) : BitVec 1 :=
  let arg0 : BitVec 32 := BitVec.ofNat 32 (i 0).val
  let c0_i32_21 : BitVec 32 := 0#32
  let v50 : BitVec 1 := Scalar.cmpi .sgt arg0 c0_i32_21
  let v51 : BitVec 32 := Scalar.extui v50
  let c0_i32_22 : BitVec 32 := 0#32
  let v52 : BitVec 1 := Scalar.cmpi .ne v51 c0_i32_22
  v52

def k1_off5 (i : grid1.Coords) : Fin 2 → Nat :=
  let arg1 : BitVec 32 := BitVec.ofNat 32 (i 1).val
  let c1000_i32 : BitVec 32 := 1000#32
  let v32 : BitVec 32 := Scalar.muli arg1 c1000_i32
  let v56 : Index := Scalar.indexCast v32
  let c0_24 : Index := 0#32
  ![v56.toNat, 0]
def k1_off6 (i : grid1.Coords) : Fin 1 → Nat :=
  let arg0 : BitVec 32 := BitVec.ofNat 32 (i 0).val
  let c2_i32_25 : BitVec 32 := 2#32
  let v58 : BitVec 32 := Scalar.addi arg0 c2_i32_25
  let v59 : Index := Scalar.indexCast v58
  ![v59.toNat]
def k1_cond4 (i : grid1.Coords) : BitVec 1 :=
  let arg0 : BitVec 32 := BitVec.ofNat 32 (i 0).val
  let c5_i32 : BitVec 32 := 5#32
  let v53 : BitVec 1 := Scalar.cmpi .eq arg0 c5_i32
  let v54 : BitVec 32 := Scalar.extui v53
  let c0_i32_23 : BitVec 32 := 0#32
  let v55 : BitVec 1 := Scalar.cmpi .ne v54 c0_i32_23
  v55

def k1_off7 (i : grid1.Coords) : Fin 2 → Nat :=
  let arg1 : BitVec 32 := BitVec.ofNat 32 (i 1).val
  let c1000_i32 : BitVec 32 := 1000#32
  let v32 : BitVec 32 := Scalar.muli arg1 c1000_i32
  let v56 : Index := Scalar.indexCast v32
  let c0_24 : Index := 0#32
  ![v56.toNat, 0]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 1 → Memref sig .tc .smem S8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1000x10000 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]
-- ==== ReferenceIdeal.lean ====
abbrev S10000x10000 : Shape := ⟨2, ![10000, 10000]⟩
abbrev S10000x128 : Shape := ⟨2, ![10000, 128]⟩
abbrev S8 : Shape := ⟨1, ![8]⟩
abbrev S10000x64 : Shape := ⟨2, ![10000, 64]⟩
abbrev S1 : Shape := ⟨1, ![1]⟩
abbrev S_ : Shape := ⟨0, ![]⟩

abbrev nBuf : Space → Nat
  | .hbm => 146
  | .vmem => 0
  | .smem => 0
  | _ => 0

abbrev hbmTy0_0 (i : Nat) : BufTy := match i % 128 with
  | 0 => ⟨S10000x10000, .f32⟩
  | 1 => ⟨S10000x128, .f32⟩
  | 2 => ⟨S8, .f32⟩
  | 3 => ⟨S10000x64, .f32⟩
  | 4 => ⟨S10000x64, .f32⟩
  | 5 => ⟨S1, .f32⟩
  | 6 => ⟨S_, .f32⟩
  | 7 => ⟨S10000x64, .f32⟩
  | 8 => ⟨S10000x64, .f32⟩
  | 9 => ⟨S1, .f32⟩
  | 10 => ⟨S_, .f32⟩
  | 11 => ⟨S10000x64, .f32⟩
  | 12 => ⟨S10000x64, .f32⟩
  | 13 => ⟨S10000x64, .f32⟩
  | 14 => ⟨S10000x64, .f32⟩
  | 15 => ⟨S_, .f32⟩
  | 16 => ⟨S10000x64, .f32⟩
  | 17 => ⟨S10000x64, .f32⟩
  | 18 => ⟨S10000x64, .f32⟩
  | 19 => ⟨S1, .f32⟩
  | 20 => ⟨S_, .f32⟩
  | 21 => ⟨S10000x64, .f32⟩
  | 22 => ⟨S10000x64, .f32⟩
  | 23 => ⟨S10000x64, .f32⟩
  | 24 => ⟨S10000x64, .f32⟩
  | 25 => ⟨S_, .f32⟩
  | 26 => ⟨S10000x64, .f32⟩
  | 27 => ⟨S10000x64, .f32⟩
  | 28 => ⟨S10000x64, .f32⟩
  | 29 => ⟨S1, .f32⟩
  | 30 => ⟨S_, .f32⟩
  | 31 => ⟨S10000x64, .f32⟩
  | 32 => ⟨S10000x64, .f32⟩
  | 33 => ⟨S10000x64, .f32⟩
  | 34 => ⟨S10000x64, .f32⟩
  | 35 => ⟨S_, .f32⟩
  | 36 => ⟨S10000x64, .f32⟩
  | 37 => ⟨S10000x64, .f32⟩
  | 38 => ⟨S10000x64, .f32⟩
  | 39 => ⟨S1, .f32⟩
  | 40 => ⟨S_, .f32⟩
  | 41 => ⟨S10000x64, .f32⟩
  | 42 => ⟨S10000x64, .f32⟩
  | 43 => ⟨S10000x64, .f32⟩
  | 44 => ⟨S10000x64, .f32⟩
  | 45 => ⟨S_, .f32⟩
  | 46 => ⟨S10000x64, .f32⟩
  | 47 => ⟨S10000x64, .f32⟩
  | 48 => ⟨S10000x64, .f32⟩
  | 49 => ⟨S1, .f32⟩
  | 50 => ⟨S_, .f32⟩
  | 51 => ⟨S10000x64, .f32⟩
  | 52 => ⟨S10000x64, .f32⟩
  | 53 => ⟨S10000x64, .f32⟩
  | 54 => ⟨S10000x64, .f32⟩
  | 55 => ⟨S_, .f32⟩
  | 56 => ⟨S10000x64, .f32⟩
  | 57 => ⟨S10000x64, .f32⟩
  | 58 => ⟨S10000x64, .f32⟩
  | 59 => ⟨S1, .f32⟩
  | 60 => ⟨S_, .f32⟩
  | 61 => ⟨S10000x64, .f32⟩
  | 62 => ⟨S10000x64, .f32⟩
  | 63 => ⟨S10000x64, .f32⟩
  | 64 => ⟨S10000x64, .f32⟩
  | 65 => ⟨S_, .f32⟩
  | 66 => ⟨S10000x64, .f32⟩
  | 67 => ⟨S10000x64, .f32⟩
  | 68 => ⟨S10000x64, .f32⟩
  | 69 => ⟨S1, .f32⟩
  | 70 => ⟨S_, .f32⟩
  | 71 => ⟨S10000x64, .f32⟩
  | 72 => ⟨S10000x64, .f32⟩
  | 73 => ⟨S10000x64, .f32⟩
  | 74 => ⟨S10000x64, .f32⟩
  | 75 => ⟨S10000x64, .f32⟩
  | 76 => ⟨S1, .f32⟩
  | 77 => ⟨S_, .f32⟩
  | 78 => ⟨S10000x64, .f32⟩
  | 79 => ⟨S10000x64, .f32⟩
  | 80 => ⟨S1, .f32⟩
  | 81 => ⟨S_, .f32⟩
  | 82 => ⟨S10000x64, .f32⟩
  | 83 => ⟨S10000x64, .f32⟩
  | 84 => ⟨S10000x64, .f32⟩
  | 85 => ⟨S10000x64, .f32⟩
  | 86 => ⟨S_, .f32⟩
  | 87 => ⟨S10000x64, .f32⟩
  | 88 => ⟨S10000x64, .f32⟩
  | 89 => ⟨S10000x64, .f32⟩
  | 90 => ⟨S1, .f32⟩
  | 91 => ⟨S_, .f32⟩
  | 92 => ⟨S10000x64, .f32⟩
  | 93 => ⟨S10000x64, .f32⟩
  | 94 => ⟨S10000x64, .f32⟩
  | 95 => ⟨S10000x64, .f32⟩
  | 96 => ⟨S_, .f32⟩
  | 97 => ⟨S10000x64, .f32⟩
  | 98 => ⟨S10000x64, .f32⟩
  | 99 => ⟨S10000x64, .f32⟩
  | 100 => ⟨S1, .f32⟩
  | 101 => ⟨S_, .f32⟩
  | 102 => ⟨S10000x64, .f32⟩
  | 103 => ⟨S10000x64, .f32⟩
  | 104 => ⟨S10000x64, .f32⟩
  | 105 => ⟨S10000x64, .f32⟩
  | 106 => ⟨S_, .f32⟩
  | 107 => ⟨S10000x64, .f32⟩
  | 108 => ⟨S10000x64, .f32⟩
  | 109 => ⟨S10000x64, .f32⟩
  | 110 => ⟨S1, .f32⟩
  | 111 => ⟨S_, .f32⟩
  | 112 => ⟨S10000x64, .f32⟩
  | 113 => ⟨S10000x64, .f32⟩
  | 114 => ⟨S10000x64, .f32⟩
  | 115 => ⟨S10000x64, .f32⟩
  | 116 => ⟨S_, .f32⟩
  | 117 => ⟨S10000x64, .f32⟩
  | 118 => ⟨S10000x64, .f32⟩
  | 119 => ⟨S10000x64, .f32⟩
  | 120 => ⟨S1, .f32⟩
  | 121 => ⟨S_, .f32⟩
  | 122 => ⟨S10000x64, .f32⟩
  | 123 => ⟨S10000x64, .f32⟩
  | 124 => ⟨S10000x64, .f32⟩
  | 125 => ⟨S10000x64, .f32⟩
  | 126 => ⟨S_, .f32⟩
  | 127 => ⟨S10000x64, .f32⟩
  | _ => ⟨S10000x10000, .f32⟩

abbrev hbmTy0_1 (i : Nat) : BufTy := match i % 128 with
  | 0 => ⟨S10000x64, .f32⟩
  | 1 => ⟨S10000x64, .f32⟩
  | 2 => ⟨S1, .f32⟩
  | 3 => ⟨S_, .f32⟩
  | 4 => ⟨S10000x64, .f32⟩
  | 5 => ⟨S10000x64, .f32⟩
  | 6 => ⟨S10000x64, .f32⟩
  | 7 => ⟨S10000x64, .f32⟩
  | 8 => ⟨S_, .f32⟩
  | 9 => ⟨S10000x64, .f32⟩
  | 10 => ⟨S10000x64, .f32⟩
  | 11 => ⟨S10000x64, .f32⟩
  | 12 => ⟨S1, .f32⟩
  | 13 => ⟨S_, .f32⟩
  | 14 => ⟨S10000x64, .f32⟩
  | 15 => ⟨S10000x64, .f32⟩
  | 16 => ⟨S10000x64, .f32⟩
  | 17 => ⟨S10000x128, .f32⟩
  | _ => ⟨S10000x10000, .f32⟩

abbrev hbmTy (i : Nat) : BufTy := match i / 128 with
  | 0 => hbmTy0_0 i
  | 1 => hbmTy0_1 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_3 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_4 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_5 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_6 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_7 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_cst_8 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_cst_9 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_cst_10 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Points
public import Idealize.ShloMosaic.Lib.Tactic
public import Idealize.ShloMosaic.Lib.Transfers
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's beside the counters of the kernel's own transfers. -/
abbrev UU : Type := UR sig nD τ × Counters

local notation "𝕄" => MT nD τ sig Unit (Elt F) ℕ UU ℕ

/-- Memref `M`'s buffer on core `c`, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev scT : Memref sig .tc .vmem S2x10000x128 .bf16 := Memref.whole cc1_scratch0
abbrev scS : Memref sig .tc .vmem S10000x128 .f32 := Memref.whole cc1_scratch1

theorem k1_off1_eq : ∀ i : grid1.Coords, k1_off1 i = ![1 - (i 0).val % 2, 0, 0] := by decide +kernel
instance closedOff_k1_off1 (i : grid1.Coords) : ClosedOff (k1_off1 i) := ⟨![1 - (i 0).val % 2, 0, 0], k1_off1_eq i⟩
theorem k1_off2_eq : ∀ i : grid1.Coords, k1_off2 i = ![(i 0).val % 2, 1000 * (i 1).val, 0] := by decide +kernel
instance closedOff_k1_off2 (i : grid1.Coords) : ClosedOff (k1_off2 i) := ⟨![(i 0).val % 2, 1000 * (i 1).val, 0], k1_off2_eq i⟩
theorem k1_off3_eq : ∀ i : grid1.Coords, k1_off3 i = ![1 - (i 0).val % 2, 1000 * (i 1).val, 0] := by decide +kernel
instance closedOff_k1_off3 (i : grid1.Coords) : ClosedOff (k1_off3 i) := ⟨![1 - (i 0).val % 2, 1000 * (i 1).val, 0], k1_off3_eq i⟩

abbrev k1_cond1 (i : grid1.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The word a scalar load of one element reads. -/
abbrev wd (c : Dev nD) (a2 : Memref sig .tc .smem S8 .f32) (C : Bf (F := F) c a2) (off : Fin 1 → ℕ) (h : ∀ a, off a + S1.size a ≤ S8.size a) : Elt F .f32 :=
  View.readAt (Elt F) a2.view (Rect.unit (s := S8) off S1.size h).toLoadRect C (Shape.Idx.first (numel1_S1.symm ▸ Nat.one_pos))

/-- The row block of the Laplacian, as loaded. -/
abbrev lb (c : Dev nD) (a3 : Memref sig .tc .vmem S1000x10000 .bf16) (L : Bf (F := F) c a3) : Vec F S1000x10000 .bf16 :=
  View.readAt (Elt F) a3.view (Rect.unit (s := S1000x10000) ![0, 0] S1000x10000.size inb_S1000x10000_S1000x10000_0_0).toLoadRect L

/-- The product of the row block with the newest term. -/
abbrev accOf (c : Dev nD) (i : grid1.Coords) (l : Vec F S1000x10000 .bf16) (T : Bf (F := F) c scT) : FVec F S1000x128 .f32 :=
  k1_pay6 l (View.readAt (Elt F) scT.view (Rect.unit (s := S2x10000x128) (k1_off1 i) S1x10000x128.size (k1_off1_inb i)).toLoadRect T)

/-- The rows of the term before it, which the new term takes the place of. -/
abbrev oldOf (c : Dev nD) (i : grid1.Coords) (T : Bf (F := F) c scT) : Vec F S1x1000x128 .bf16 :=
  View.readAt (Elt F) scT.view (Rect.unit (s := S2x10000x128) (k1_off2 i) S1x1000x128.size (k1_off2_inb i)).toLoadRect T

/-- The two terms' scratch after the body. -/
def stepT (c : Dev nD) (i : grid1.Coords) (l : Vec F S1000x10000 .bf16) (T : Bf (F := F) c scT) : Bf (F := F) c scT :=
  scT.view.writes (Elt F) T [⟨Rect.unit (s := S2x10000x128) (k1_off2 i) S1x1000x128.size (k1_off2_inb i), k1_pay3 (accOf c i l T) (oldOf c i T)⟩]

/-- The running sum's scratch after the body, in the first sweep. -/
def stepS0 (c : Dev nD) (i : grid1.Coords) (hc2 : k1_cond2 i = 1#1) (a2 : Memref sig .tc .smem S8 .f32) (C : Bf (F := F) c a2) (l : Vec F S1000x10000 .bf16) (T : Bf (F := F) c scT)
    (S : Bf (F := F) c scS) : Bf (F := F) c scS :=
  scS.view.writes (Elt F) S [⟨Rect.unit (s := S10000x128) (k1_off4 i) S1000x128.size (k1_off4_inb i hc2),
    k1_pay4 (accOf c i l T) (oldOf c i T) (wd c a2 C ![0] inb_S8_S1_0) (wd c a2 C ![1] inb_S8_S1_1)
      (View.readAt (Elt F) scT.view (Rect.unit (s := S2x10000x128) (k1_off3 i) S1x1000x128.size (k1_off3_inb i hc2)).toLoadRect (stepT c i l T))
      (wd c a2 C ![2] inb_S8_S1_2)⟩]

/-- The running sum's scratch after the body, in a later sweep. -/
def stepS (c : Dev nD) (i : grid1.Coords) (hc3 : k1_cond3 i = 1#1) (a2 : Memref sig .tc .smem S8 .f32) (C : Bf (F := F) c a2) (l : Vec F S1000x10000 .bf16) (T : Bf (F := F) c scT)
    (S : Bf (F := F) c scS) : Bf (F := F) c scS :=
  scS.view.writes (Elt F) S [⟨Rect.unit (s := S10000x128) (k1_off5 i) S1000x128.size (k1_off5_inb i hc3),
    k1_pay5 (accOf c i l T) (oldOf c i T)
      (View.readAt (Elt F) scS.view (Rect.unit (s := S10000x128) (k1_off5 i) S1000x128.size (k1_off5_inb i hc3)).toLoadRect S)
      (wd c a2 C (k1_off6 i) (k1_off6_inb i hc3))⟩]

/-- The rows of the running sum the last sweep stores into the output block. -/
abbrev outOf (c : Dev nD) (i : grid1.Coords) (hc4 : k1_cond4 i = 1#1) (S : Bf (F := F) c scS) : Vec F S1000x128 .f32 :=
  View.readAt (Elt F) scS.view (Rect.unit (s := S10000x128) (k1_off7 i) S1000x128.size (k1_off7_inb i hc4)).toLoadRect S

/-- One of the two slots of the terms' scratch, as a transfer names it. -/
abbrev slot0 : Memref sig .tc .vmem S10000x128 .bf16 :=
  (scT.slice (Rect.unit (s := S2x10000x128) ![0, 0, 0] S1x10000x128.size inb_S2x10000x128_S1x10000x128_0_0_0) (fun _ => rfl)).squeeze S10000x128 squeezes_S1x10000x128_S10000x128
abbrev slot1 : Memref sig .tc .vmem S10000x128 .bf16 :=
  (scT.slice (Rect.unit (s := S2x10000x128) ![1, 0, 0] S1x10000x128.size inb_S2x10000x128_S1x10000x128_1_0_0) (fun _ => rfl)).squeeze S10000x128 squeezes_S1x10000x128_S10000x128

/-- The terms' scratch after the two transfers of the first point. -/
def landed (c : Dev nD) (T : Bf (F := F) c scT) (X : Bf (F := F) c (Memref.whole main_v0)) (X1 : Bf (F := F) c (Memref.whole main_v1_1)) : Bf (F := F) c scT :=
  View.write (Elt F) slot1.view (View.write (Elt F) slot0.view T ((Memref.whole main_v0).view.read (Elt F) X) Finset.univ) ((Memref.whole main_v1_1).view.read (Elt F) X1) Finset.univ

/-- The rows the last store reads are the rows just written. -/
theorem off7_mem (i : grid1.Coords) (hc3 : k1_cond3 i = 1#1) (hc4 : k1_cond4 i = 1#1)
    (j : (Rect.unit (s := S10000x128) (k1_off7 i) S1000x128.size (k1_off7_inb i hc4)).toLoadRect.shape.Idx) :
    (Rect.unit (s := S10000x128) (k1_off7 i) S1000x128.size (k1_off7_inb i hc4)).toLoadRect.idx j
      ∈ (Rect.unit (s := S10000x128) (k1_off5 i) S1000x128.size (k1_off5_inb i hc3)).set := by
  rw [Rect.mem_set_unit]
  intro a
  have h5 := congrFun (k1_off5_eq i) a
  have h7 := congrFun (k1_off7_eq i) a
  have hj : (j a).val < S1000x128.size a := (j a).isLt
  have e : ((Rect.unit (s := S10000x128) (k1_off7 i) S1000x128.size (k1_off7_inb i hc4)).toLoadRect.idx j a).val = k1_off7 i a + 1 * (j a).val := rfl
  rw [e, h5, ← h7]
  omega

theorem runC (c : Dev nD) (i : grid1.Coords) (a2 : Memref sig .tc .smem S8 .f32) (h2 : a2.IsWhole) (a3 : Memref sig .tc .vmem S1000x10000 .bf16) (h3 : a3.IsWhole)
    (a4 : Memref sig .tc .hbm S10000x128 .bf16) (h4 : a4.IsWhole) (a5 : Memref sig .tc .hbm S10000x128 .bf16) (h5 : a5.IsWhole)
    (a6 : Memref sig .tc .vmem S1000x128 .f32) (h6 : a6.IsWhole)
    (hc1 : ¬ k1_cond1 i = 1#1) (hc2 : ¬ k1_cond2 i = 1#1) (hc3 : k1_cond3 i = 1#1) (hc4 : ¬ k1_cond4 i = 1#1)
    (C : Bf (F := F) c a2) (L : Bf (F := F) c a3) (T : Bf (F := F) c scT) (S : Bf (F := F) c scS) :
    ∀ (Q : PUnit → sProp 𝕄),
    iprop(pt c a2 C ∗ pt c a3 L ∗ pt c scT T ∗ pt c scS S
        ∗ (iprop(pt c a2 C ∗ pt c a3 L ∗ pt c scT (stepT c i (lb c a3 L) T) ∗ pt c scS (stepS c i hc3 a2 C (lb c a3 L) T S)) -∗ Q ⟨⟩))
      ⊢ wp frame (wpE (defs₀ (F := F)) Variants.none c none) Set.univ
          (cc1__rec_kernel i a2 h2 a3 h3 a4 h4 a5 h5 a6 h6 scT (Memref.isWhole_whole _) scS (Memref.isWhole_whole _) cc1_scratch2) Q := by
  intro Q
  simp only [cc1__rec_kernel_eq_skeleton]; unfold cc1__rec_kernel_skel
  simp only [k1_part1_eq_skeleton]; unfold k1_part1_skel
  iintro ⟨H2, H3, HT, HS, Hk⟩
  sl_exec
  sl_step
  iapply Hk
  isplitl [H2]; · iexact H2
  isplitl [H3]; · iexact H3
  isplitl [HT]; · iexact HT
  iexact HS

theorem runB (c : Dev nD) (i : grid1.Coords) (a2 : Memref sig .tc .smem S8 .f32) (h2 : a2.IsWhole) (a3 : Memref sig .tc .vmem S1000x10000 .bf16) (h3 : a3.IsWhole)
    (a4 : Memref sig .tc .hbm S10000x128 .bf16) (h4 : a4.IsWhole) (a5 : Memref sig .tc .hbm S10000x128 .bf16) (h5 : a5.IsWhole)
    (a6 : Memref sig .tc .vmem S1000x128 .f32) (h6 : a6.IsWhole)
    (hc1 : ¬ k1_cond1 i = 1#1) (hc2 : k1_cond2 i = 1#1) (hc3 : ¬ k1_cond3 i = 1#1) (hc4 : ¬ k1_cond4 i = 1#1)
    (C : Bf (F := F) c a2) (L : Bf (F := F) c a3) (T : Bf (F := F) c scT) (S : Bf (F := F) c scS) :
    ∀ (Q : PUnit → sProp 𝕄),
    iprop(pt c a2 C ∗ pt c a3 L ∗ pt c scT T ∗ pt c scS S
        ∗ (iprop(pt c a2 C ∗ pt c a3 L ∗ pt c scT (stepT c i (lb c a3 L) T) ∗ pt c scS (stepS0 c i hc2 a2 C (lb c a3 L) T S)) -∗ Q ⟨⟩))
      ⊢ wp frame (wpE (defs₀ (F := F)) Variants.none c none) Set.univ
          (cc1__rec_kernel i a2 h2 a3 h3 a4 h4 a5 h5 a6 h6 scT (Memref.isWhole_whole _) scS (Memref.isWhole_whole _) cc1_scratch2) Q := by
  intro Q
  simp only [cc1__rec_kernel_eq_skeleton]; unfold cc1__rec_kernel_skel
  simp only [k1_part1_eq_skeleton]; unfold k1_part1_skel
  iintro ⟨H2, H3, HT, HS, Hk⟩
  sl_exec
  sl_step
  iapply Hk
  isplitl [H2]; · iexact H2
  isplitl [H3]; · iexact H3
  isplitl [HT]; · iexact HT
  iexact HS

theorem runD (c : Dev nD) (i : grid1.Coords) (a2 : Memref sig .tc .smem S8 .f32) (h2 : a2.IsWhole) (a3 : Memref sig .tc .vmem S1000x10000 .bf16) (h3 : a3.IsWhole)
    (a4 : Memref sig .tc .hbm S10000x128 .bf16) (h4 : a4.IsWhole) (a5 : Memref sig .tc .hbm S10000x128 .bf16) (h5 : a5.IsWhole)
    (a6 : Memref sig .tc .vmem S1000x128 .f32) (h6 : a6.IsWhole)
    (hc1 : ¬ k1_cond1 i = 1#1) (hc2 : ¬ k1_cond2 i = 1#1) (hc3 : k1_cond3 i = 1#1) (hc4 : k1_cond4 i = 1#1)
    (C : Bf (F := F) c a2) (L : Bf (F := F) c a3) (T : Bf (F := F) c scT) (S : Bf (F := F) c scS) (O : Bf (F := F) c a6) :
    ∀ (Q : PUnit → sProp 𝕄),
    iprop(pt c a2 C ∗ pt c a3 L ∗ pt c scT T ∗ pt c scS S ∗ pt c a6 O
        ∗ (iprop(pt c a2 C ∗ pt c a3 L ∗ pt c scT (stepT c i (lb c a3 L) T) ∗ pt c scS (stepS c i hc3 a2 C (lb c a3 L) T S) ∗ pt c a6 (a6.view.writes (Elt F) O [⟨Rect.unit (s := S1000x128) ![0, 0] S1000x128.size inb_S1000x128_S1000x128_0_0, outOf c i hc4 ((stepS c i hc3 a2 C (lb c a3 L) T S))⟩])) -∗ Q ⟨⟩))
      ⊢ wp frame (wpE (defs₀ (F := F)) Variants.none c none) Set.univ
          (cc1__rec_kernel i a2 h2 a3 h3 a4 h4 a5 h5 a6 h6 scT (Memref.isWhole_whole _) scS (Memref.isWhole_whole _) cc1_scratch2) Q := by
  intro Q
  simp only [cc1__rec_kernel_eq_skeleton]; unfold cc1__rec_kernel_skel
  simp only [k1_part1_eq_skeleton]; unfold k1_part1_skel
  iintro ⟨H2, H3, HT, HS, HO, Hk⟩
  sl_exec
  sl_step
  iapply Hk
  isplitl [H2]; · iexact H2
  isplitl [H3]; · iexact H3
  isplitl [HT]; · iexact HT
  isplitl [HS]; · iexact HS
  have e : outOf c i hc4 (stepS c i hc3 a2 C (lb c a3 L) T S) = runD.sl.v57 c i a2 a3 hc3 hc4 C L T S :=
    View.readAt_writes_of_cover scS.view S _ _ (fun j => ⟨_, List.mem_singleton_self _, off7_mem i hc3 hc4 j⟩)
  rw [e]
  iexact HO

set_option sl_exec.dmaWindow true in
theorem runA (c : Dev nD) (i : grid1.Coords) (a2 : Memref sig .tc .smem S8 .f32) (h2 : a2.IsWhole) (a3 : Memref sig .tc .vmem S1000x10000 .bf16) (h3 : a3.IsWhole)
    (a6 : Memref sig .tc .vmem S1000x128 .f32) (h6 : a6.IsWhole)
    (hc1 : k1_cond1 i = 1#1) (hc2 : k1_cond2 i = 1#1) (hc3 : ¬ k1_cond3 i = 1#1) (hc4 : ¬ k1_cond4 i = 1#1)
    (C : Bf (F := F) c a2) (L : Bf (F := F) c a3) (T : Bf (F := F) c scT) (S : Bf (F := F) c scS) (X : Bf (F := F) c (Memref.whole main_v0)) (X1 : Bf (F := F) c (Memref.whole main_v1_1)) (W0 : Waits sig Unit) :
    ∀ (Q : PUnit → sProp 𝕄),
    iprop(pt c a2 C ∗ pt c a3 L ∗ pt c scT T ∗ pt c scS S
        ∗ pt c (Memref.whole main_v0) X ∗ pt c (Memref.whole main_v1_1) X1 ∗ semVal ((c : Thread nD τ), SemLoc.dma 12) 0 ∗ semVal ((c : Thread nD τ), SemLoc.dma 13) 0 ∗ owes (c : Thread nD τ) 0 W0
        ∗ (iprop(pt c a2 C ∗ pt c a3 L ∗ pt c scT (stepT c i (lb c a3 L) (landed c T X X1)) ∗ pt c scS (stepS0 c i hc2 a2 C (lb c a3 L) (landed c T X X1) S)
        ∗ pt c (Memref.whole main_v0) X ∗ pt c (Memref.whole main_v1_1) X1 ∗ semVal ((c : Thread nD τ), SemLoc.dma 12) 0 ∗ semVal ((c : Thread nD τ), SemLoc.dma 13) 0 ∗ ∃ W, owes (c : Thread nD τ) 0 W) -∗ Q ⟨⟩))
      ⊢ wp frame (wpE (defs₀ (F := F)) Variants.none c none) Set.univ
          (cc1__rec_kernel i a2 h2 a3 h3 (Memref.whole main_v0) (Memref.isWhole_whole _) (Memref.whole main_v1_1) (Memref.isWhole_whole _) a6 h6 scT (Memref.isWhole_whole _) scS (Memref.isWhole_whole _) cc1_scratch2) Q := by
  intro Q
  simp only [cc1__rec_kernel_eq_skeleton]; unfold cc1__rec_kernel_skel
  simp only [k1_part1_eq_skeleton]; unfold k1_part1_skel
  iintro ⟨H2, H3, HT, HS, HX, HX1, Hd0, Hd1, HW, Hk⟩
  sl_exec
  sl_step
  iapply Hk
  isplitl [H2]; · iexact H2
  isplitl [H3]; · iexact H3
  isplitl [HT]; · iexact HT
  isplitl [HS]; · iexact HS
  isplitl [HX]; · iexact HX
  isplitl [HX1]; · iexact HX1
  isplitl [Hd0]; · iexact Hd0
  isplitl [Hd1]; · iexact Hd1
  iexists _; iexact HW

end Cert.KernelIdeal.Hand
end
-- ==== Proof.Steps.lean ====
module

public import proofs.«01_k».proof.Proof.Body
public import Idealize.ShloMosaic.Lib.ValueIdxCore
public import Idealize.ShloMosaic.Lib.WritesUnit
public import Idealize.ShloMosaic.Lib.ValueLayout
public import Idealize.ShloMosaic.Lib.ViewIndex

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## The recurrence, as functions of rows and columns -/

/-- The block a row lies in, and its place there. -/
def rowBlk (r : Fin 10000) : Fin 10 := ⟨r.val / 1000, by omega⟩
def rowIn (r : Fin 10000) : Fin 1000 := ⟨r.val % 1000, by omega⟩
/-- Row `r` of block `b`. -/
def rowOf (b : Fin 10) (r : Fin 1000) : Fin 10000 := ⟨1000 * b.val + r.val, by omega⟩

/-- Row block `b` of the Laplacian. -/
def lblk (Lp : S10000x10000.Idx → Elt F .bf16) (b : Fin 10) : Vec F S1000x10000 .bf16 := fun y => Lp (ix2 (rowOf b (y 0)) (y 1))
/-- A term as one slot of the terms' scratch holds it. -/
def slab (A : S10000x128.Idx → Elt F .bf16) : Vec F S1x10000x128 .bf16 := fun y => A (ix2 (y 1) (y 2))
/-- Row block `b` of a term, as one slot holds it. -/
def rows (b : Fin 10) (A : S10000x128.Idx → Elt F .bf16) : Vec F S1x1000x128 .bf16 := fun y => A (ix2 (rowOf b (y 1)) (y 2))
/-- Row block `b` of a running sum. -/
def rows2 (b : Fin 10) (A : S10000x128.Idx → Elt F .f32) : Vec F S1000x128 .f32 := fun y => A (ix2 (rowOf b (y 0)) (y 1))

/-- The Chebyshev terms: the features, their first product, then twice the product of the term before less the one
    before that, row block by row block. -/
def term (Lp : S10000x10000.Idx → Elt F .bf16) (X X1 : S10000x128.Idx → Elt F .bf16) : ℕ → S10000x128.Idx → Elt F .bf16
  | 0 => X
  | 1 => X1
  | k + 2 => fun y => k1_pay3 (k1_pay6 (lblk Lp (rowBlk (y 0))) (slab (term Lp X X1 (k + 1)))) (rows (rowBlk (y 0)) (term Lp X X1 k))
      (ix3 (0 : Fin 1) (rowIn (y 0)) (y 1))

/-- The running sum after each sweep: the first three terms by their coefficients, then one term more each time. -/
def psum (Lp : S10000x10000.Idx → Elt F .bf16) (X X1 : S10000x128.Idx → Elt F .bf16) (C : ℕ → Elt F .f32) : ℕ → S10000x128.Idx → Elt F .f32
  | 0 => fun y => k1_pay4 (k1_pay6 (lblk Lp (rowBlk (y 0))) (slab (term Lp X X1 1))) (rows (rowBlk (y 0)) (term Lp X X1 0)) (C 0) (C 1)
      (rows (rowBlk (y 0)) (term Lp X X1 1)) (C 2) (ix2 (rowIn (y 0)) (y 1))
  | s + 1 => fun y => k1_pay5 (k1_pay6 (lblk Lp (rowBlk (y 0))) (slab (term Lp X X1 (s + 2)))) (rows (rowBlk (y 0)) (term Lp X X1 (s + 1)))
      (rows2 (rowBlk (y 0)) (psum Lp X X1 C s)) (C (s + 3)) (ix2 (rowIn (y 0)) (y 1))

/-- What the two scratches hold in sweep `s` with `n` row blocks done: the newest term whole in one slot; in the other the
    term being made over the rows done, the term it replaces over the others; the running sum likewise. -/
structure Inv (Lp : S10000x10000.Idx → Elt F .bf16) (X X1 : S10000x128.Idx → Elt F .bf16) (C : ℕ → Elt F .f32) (s n : ℕ)
    (T : S2x10000x128.Idx → Elt F .bf16) (S : S10000x128.Idx → Elt F .f32) : Prop where
  new : ∀ (a : Fin 2) r d, a.val = 1 - s % 2 → T (ix3 a r d) = term Lp X X1 (s + 1) (ix2 r d)
  done : ∀ (a : Fin 2) (r : Fin 10000) d, a.val = s % 2 → r.val < 1000 * n → T (ix3 a r d) = term Lp X X1 (s + 2) (ix2 r d)
  todo : ∀ (a : Fin 2) (r : Fin 10000) d, a.val = s % 2 → 1000 * n ≤ r.val → T (ix3 a r d) = term Lp X X1 s (ix2 r d)
  sdone : ∀ (r : Fin 10000) d, r.val < 1000 * n → S (ix2 r d) = psum Lp X X1 C s (ix2 r d)
  stodo : ∀ (r : Fin 10000) d, 1000 * n ≤ r.val → ∀ s', s = s' + 1 → S (ix2 r d) = psum Lp X X1 C s' (ix2 r d)

variable {Lp : S10000x10000.Idx → Elt F .bf16} {X X1 : S10000x128.Idx → Elt F .bf16} {C : ℕ → Elt F .f32} {s n : ℕ}
  {T : S2x10000x128.Idx → Elt F .bf16} {S : S10000x128.Idx → Elt F .f32}

/-- A sweep done is the next one not begun. -/
theorem Inv.next (h : Inv Lp X X1 C s 10 T S) : Inv Lp X X1 C (s + 1) 0 T S where
  new a r d ha := h.done a r d (by omega) (by omega)
  done a r d _ hr := absurd hr (by omega)
  todo a r d ha _ := h.new a r d (by omega)
  sdone r d hr := absurd hr (by omega)
  stodo r d _ s' e := by
    obtain rfl : s = s' := by omega
    exact h.sdone r d (by omega)

/-- The same contents, the running sum's replaced, before anything is summed. -/
theorem Inv.anyS (h : Inv Lp X X1 C 0 0 T S) (S' : S10000x128.Idx → Elt F .f32) : Inv Lp X X1 C 0 0 T S' where
  new := h.new
  done := h.done
  todo := h.todo
  sdone r d hr := absurd hr (by omega)
  stodo r d _ s' e := absurd e (by omega)

theorem rowOf_rowBlk (r : Fin 10000) : rowOf (rowBlk r) (rowIn r) = r := Fin.ext (by unfold rowOf rowBlk rowIn; dsimp only; omega)

/-- The payload at a row of block `b`, where the row's block is `b`. -/
theorem rowBlk_eq (b : Fin 10) (r : Fin 10000) (h0 : 1000 * b.val ≤ r.val) (h1 : r.val < 1000 * b.val + 1000) : rowBlk r = b :=
  Fin.ext (by unfold rowBlk; dsimp only; omega)

/-! ## What the body reads and writes, through the invariant -/

variable (c : Dev nD) (i : grid1.Coords) (Tb : Bf (F := F) c scT) (Sb : Bf (F := F) c scS)

/-- The second grid coordinate as a block number. -/
def blkOf (i : grid1.Coords) : Fin 10 := ⟨(i 1).val, (i 1).isLt⟩

theorem readNew (h : Inv Lp X X1 C (i 0).val (i 1).val (scT.view.read (Elt F) Tb) S) :
    View.readAt (Elt F) scT.view (Rect.unit (s := S2x10000x128) (k1_off1 i) S1x10000x128.size (k1_off1_inb i)).toLoadRect Tb = slab (term Lp X X1 ((i 0).val + 1)) := by
  funext y
  have h1 := k1_off1_eq i
  rw [View.readAt_apply]
  have e : (Rect.unit (s := S2x10000x128) (k1_off1 i) S1x10000x128.size (k1_off1_inb i)).toLoadRect.idx y
      = ix3 (⟨1 - (i 0).val % 2, by omega⟩ : Fin 2) (y 1) (y 2) := by
    funext a
    refine Fin.ext ?_
    have hv : ((Rect.unit (s := S2x10000x128) (k1_off1 i) S1x10000x128.size (k1_off1_inb i)).toLoadRect.idx y a).val = k1_off1 i a + 1 * (y a).val := rfl
    refine (hv.trans (congrArg (· + 1 * (y a).val) (congrFun h1 a))).trans ?_
    match a with
    | ⟨0, _⟩ => have h0 : (y 0).val < 1 := (y 0).isLt
                show 1 - (i 0).val % 2 + 1 * (y 0).val = 1 - (i 0).val % 2
                omega
    | ⟨1, _⟩ => show 0 + 1 * (y 1).val = (y 1).val; omega
    | ⟨2, _⟩ => show 0 + 1 * (y 2).val = (y 2).val; omega
  rw [e]
  exact h.new _ _ _ rfl

theorem readOld (h : Inv Lp X X1 C (i 0).val (i 1).val (scT.view.read (Elt F) Tb) S) : oldOf c i Tb = rows (blkOf i) (term Lp X X1 (i 0).val) := by
  funext y
  have h1 := k1_off2_eq i
  unfold oldOf
  rw [View.readAt_apply]
  have e : (Rect.unit (s := S2x10000x128) (k1_off2 i) S1x1000x128.size (k1_off2_inb i)).toLoadRect.idx y
      = ix3 (⟨(i 0).val % 2, by omega⟩ : Fin 2) (rowOf (blkOf i) (y 1)) (y 2) := by
    funext a
    refine Fin.ext ?_
    have hv : ((Rect.unit (s := S2x10000x128) (k1_off2 i) S1x1000x128.size (k1_off2_inb i)).toLoadRect.idx y a).val = k1_off2 i a + 1 * (y a).val := rfl
    refine (hv.trans (congrArg (· + 1 * (y a).val) (congrFun h1 a))).trans ?_
    match a with
    | ⟨0, _⟩ => have h0 : (y 0).val < 1 := (y 0).isLt
                show (i 0).val % 2 + 1 * (y 0).val = (i 0).val % 2
                omega
    | ⟨1, _⟩ => show 1000 * (i 1).val + 1 * (y 1).val = 1000 * (i 1).val + (y 1).val; omega
    | ⟨2, _⟩ => show 0 + 1 * (y 2).val = (y 2).val; omega
  rw [e]
  exact h.todo _ _ _ rfl (by show 1000 * (i 1).val ≤ 1000 * (i 1).val + (y 1).val; omega)

/-- The terms' scratch after the body: the block's rows of the other slot hold the new term, everything else is kept. -/
theorem read_stepT (h : Inv Lp X X1 C (i 0).val (i 1).val (scT.view.read (Elt F) Tb) S) (a : Fin 2) (r : Fin 10000) (d : Fin 128) :
    scT.view.read (Elt F) (stepT c i (lblk Lp (blkOf i)) Tb) (ix3 a r d)
      = if a.val = (i 0).val % 2 ∧ 1000 * (i 1).val ≤ r.val ∧ r.val < 1000 * (i 1).val + 1000 then term Lp X X1 ((i 0).val + 2) (ix2 r d)
        else scT.view.read (Elt F) Tb (ix3 a r d) := by
  unfold stepT accOf
  rw [readOld c i Tb h, readNew c i Tb h]
  by_cases hb : a.val = (i 0).val % 2 ∧ 1000 * (i 1).val ≤ r.val ∧ r.val < 1000 * (i 1).val + 1000
  · rw [if_pos hb]
    obtain ⟨ha, h0, h1⟩ := hb
    have hbk : rowBlk r = blkOf i := rowBlk_eq _ _ h0 h1
    refine (View.read_writes_cons_unit_of_mem scT.view Tb (k1_off2_inb i) _ [] (ix3 a r d) (ix3 (0 : Fin 1) (rowIn r) d) (k1_off2_eq i) ?_).trans ?_
    · intro b
      match b with
      | ⟨0, _⟩ => show a.val = (i 0).val % 2 + 0; omega
      | ⟨1, _⟩ => show r.val = 1000 * (i 1).val + r.val % 1000; omega
      | ⟨2, _⟩ => show d.val = 0 + d.val; omega
    · show _ = k1_pay3 (k1_pay6 (lblk Lp (rowBlk r)) _) (rows (rowBlk r) _) (ix3 (0 : Fin 1) (rowIn r) d)
      rw [hbk]
  · rw [if_neg hb]
    by_cases ha : a.val = (i 0).val % 2
    · refine (View.read_writes_cons_unit_of_not_mem scT.view Tb (k1_off2_inb i) _ [] (ix3 a r d) (k1_off2_eq i) 1 ?_)
      show r.val < 1000 * (i 1).val ∨ 1000 * (i 1).val + 1000 ≤ r.val
      omega
    · refine (View.read_writes_cons_unit_of_not_mem scT.view Tb (k1_off2_inb i) _ [] (ix3 a r d) (k1_off2_eq i) 0 ?_)
      show a.val < (i 0).val % 2 ∨ (i 0).val % 2 + 1 ≤ a.val
      omega

/-- The coefficients, as the body names them. -/
def coef (Cs : S8.Idx → Elt F .f32) (k : ℕ) : Elt F .f32 := Cs (ix1 (⟨k % 8, by omega⟩ : Fin 8))

theorem wd_eq (a2 : Memref sig .tc .smem S8 .f32) (Cb : Bf (F := F) c a2) (off : Fin 1 → ℕ) (h : ∀ a, off a + S1.size a ≤ S8.size a) :
    wd c a2 Cb off h = coef (a2.view.read (Elt F) Cb) (off 0) := by
  unfold wd coef
  rw [View.readAt_apply]
  congr 1
  funext a
  match a with
  | ⟨0, _⟩ =>
    refine Fin.ext ?_
    have h0 : off 0 + 1 ≤ 8 := h 0
    show off 0 + 1 * 0 = off 0 % 8
    omega

/-- A word named by another spelling of its place. -/
theorem wd_at (a2 : Memref sig .tc .smem S8 .f32) (Cb : Bf (F := F) c a2) {off : Fin 1 → ℕ} (h : ∀ a, off a + S1.size a ≤ S8.size a) {k : ℕ}
    (e : off 0 = k) : wd c a2 Cb off h = coef (a2.view.read (Elt F) Cb) k := e ▸ wd_eq c a2 Cb off h

theorem blk_mem (i : grid1.Coords) (r : Fin 1000) : 1000 * (i 1).val + r.val < 10000 := (rowOf (blkOf i) r).isLt

/-- A row block of a two-axis buffer, read at the block's rows. -/
theorem read_rows2 (Sf : Bf (F := F) c scS) (off : Fin 2 → ℕ) (h : ∀ a, off a + S1000x128.size a ≤ S10000x128.size a) (e : off = ![1000 * (i 1).val, 0])
    (A : S10000x128.Idx → Elt F .f32) (hA : ∀ (r : Fin 10000) d, 1000 * (i 1).val ≤ r.val → r.val < 1000 * (i 1).val + 1000 → scS.view.read (Elt F) Sf (ix2 r d) = A (ix2 r d)) :
    View.readAt (Elt F) scS.view (Rect.unit (s := S10000x128) off S1000x128.size h).toLoadRect Sf = rows2 (blkOf i) A := by
  subst e
  funext y
  rw [View.readAt_apply]
  have e : (Rect.unit (s := S10000x128) ![1000 * (i 1).val, 0] S1000x128.size h).toLoadRect.idx y = ix2 (rowOf (blkOf i) (y 0)) (y 1) := by
    funext a
    refine Fin.ext ?_
    match a with
    | ⟨0, _⟩ => show 1000 * (i 1).val + 1 * (y 0).val = 1000 * (i 1).val + (y 0).val; omega
    | ⟨1, _⟩ => show 0 + 1 * (y 1).val = (y 1).val; omega
  rw [e]
  have hy : (y 0).val < 1000 := (y 0).isLt
  exact hA _ _ (by show 1000 * (i 1).val ≤ 1000 * (i 1).val + (y 0).val; omega) (by show 1000 * (i 1).val + (y 0).val < _; omega)

/-- A row block written into a two-axis buffer: read back at a row of the block the payload, elsewhere the old contents. -/
theorem read_write_rows2 (off : Fin 2 → ℕ) (h : ∀ a, off a + S1000x128.size a ≤ S10000x128.size a) (e : off = ![1000 * (i 1).val, 0])
    (w : Vec F S1000x128 .f32) (r : Fin 10000) (d : Fin 128) :
    scS.view.read (Elt F) (scS.view.writes (Elt F) Sb [⟨Rect.unit (s := S10000x128) off S1000x128.size h, w⟩]) (ix2 r d)
      = if 1000 * (i 1).val ≤ r.val ∧ r.val < 1000 * (i 1).val + 1000 then w (ix2 (rowIn r) d) else scS.view.read (Elt F) Sb (ix2 r d) := by
  have hi : (i 1).val < 10 := (i 1).isLt
  split_ifs with hb
  · refine View.read_writes_cons_unit_of_mem scS.view Sb h w [] (ix2 r d) (ix2 (rowIn r) d) e ?_
    intro b
    match b with
    | ⟨0, _⟩ => show r.val = 1000 * (i 1).val + r.val % 1000; omega
    | ⟨1, _⟩ => show d.val = 0 + d.val; omega
  · refine View.read_writes_cons_unit_of_not_mem scS.view Sb h w [] (ix2 r d) e 0 ?_
    show r.val < 1000 * (i 1).val ∨ 1000 * (i 1).val + 1000 ≤ r.val
    omega

/-- The newest term's rows, read after the new rows went into the other slot. -/
theorem readNewRows (hc2 : k1_cond2 i = 1#1) (h : Inv Lp X X1 C (i 0).val (i 1).val (scT.view.read (Elt F) Tb) S) :
    View.readAt (Elt F) scT.view (Rect.unit (s := S2x10000x128) (k1_off3 i) S1x1000x128.size (k1_off3_inb i hc2)).toLoadRect (stepT c i (lblk Lp (blkOf i)) Tb)
      = rows (blkOf i) (term Lp X X1 ((i 0).val + 1)) := by
  funext y
  have h1 := k1_off3_eq i
  rw [View.readAt_apply]
  have e : (Rect.unit (s := S2x10000x128) (k1_off3 i) S1x1000x128.size (k1_off3_inb i hc2)).toLoadRect.idx y
      = ix3 (⟨1 - (i 0).val % 2, by omega⟩ : Fin 2) (rowOf (blkOf i) (y 1)) (y 2) := by
    funext a
    refine Fin.ext ?_
    have hv : ((Rect.unit (s := S2x10000x128) (k1_off3 i) S1x1000x128.size (k1_off3_inb i hc2)).toLoadRect.idx y a).val = k1_off3 i a + 1 * (y a).val := rfl
    refine (hv.trans (congrArg (· + 1 * (y a).val) (congrFun h1 a))).trans ?_
    match a with
    | ⟨0, _⟩ => have h0 : (y 0).val < 1 := (y 0).isLt
                show 1 - (i 0).val % 2 + 1 * (y 0).val = 1 - (i 0).val % 2
                omega
    | ⟨1, _⟩ => show 1000 * (i 1).val + 1 * (y 1).val = 1000 * (i 1).val + (y 1).val; omega
    | ⟨2, _⟩ => show 0 + 1 * (y 2).val = (y 2).val; omega
  rw [e]
  refine (read_stepT c i Tb h _ _ _).trans ?_
  rw [if_neg (by intro hh; have := hh.1; dsimp only at this; omega)]
  exact h.new _ _ _ rfl

/-- The invariant's half about the terms, after the body. -/
theorem inv_T (h : Inv Lp X X1 C (i 0).val (i 1).val (scT.view.read (Elt F) Tb) S) {S' : S10000x128.Idx → Elt F .f32}
    (hd : ∀ (r : Fin 10000) d, 1000 * (i 1).val ≤ r.val → r.val < 1000 * (i 1).val + 1000 → S' (ix2 r d) = psum Lp X X1 C (i 0).val (ix2 r d))
    (hk : ∀ (r : Fin 10000) d, ¬ (1000 * (i 1).val ≤ r.val ∧ r.val < 1000 * (i 1).val + 1000) → S' (ix2 r d) = S (ix2 r d)) :
    Inv Lp X X1 C (i 0).val ((i 1).val + 1) (scT.view.read (Elt F) (stepT c i (lblk Lp (blkOf i)) Tb)) S' where
  new a r d ha := by
    rw [read_stepT c i Tb h, if_neg (by intro hh; omega)]
    exact h.new a r d ha
  done a r d ha hr := by
    rw [read_stepT c i Tb h]
    split_ifs with hb
    · rfl
    · exact h.done a r d ha (by omega)
  todo a r d ha hr := by
    rw [read_stepT c i Tb h, if_neg (by intro hh; omega)]
    exact h.todo a r d ha (by omega)
  sdone r d hr := by
    by_cases hb : 1000 * (i 1).val ≤ r.val ∧ r.val < 1000 * (i 1).val + 1000
    · exact hd r d hb.1 hb.2
    · rw [hk r d hb]; exact h.sdone r d (by omega)
  stodo r d hr s' e := by
    rw [hk r d (by intro hh; omega)]
    exact h.stodo r d (by omega) s' e

/-- The body in the first sweep keeps the invariant, one row block further. -/
theorem inv_step0 (hc2 : k1_cond2 i = 1#1) (hi : (i 0).val = 0) (a2 : Memref sig .tc .smem S8 .f32) (Cb : Bf (F := F) c a2)
    (h : Inv Lp X X1 (coef (a2.view.read (Elt F) Cb)) (i 0).val (i 1).val (scT.view.read (Elt F) Tb) (scS.view.read (Elt F) Sb)) :
    Inv Lp X X1 (coef (a2.view.read (Elt F) Cb)) (i 0).val ((i 1).val + 1) (scT.view.read (Elt F) (stepT c i (lblk Lp (blkOf i)) Tb))
      (scS.view.read (Elt F) (stepS0 c i hc2 a2 Cb (lblk Lp (blkOf i)) Tb Sb)) := by
  refine inv_T c i Tb h ?_ ?_
  · intro r d h0 h1
    have hbk : rowBlk r = blkOf i := rowBlk_eq _ _ h0 h1
    unfold stepS0 accOf
    rw [read_write_rows2 c i Sb _ _ (k1_off4_eq i), if_pos ⟨h0, h1⟩, readOld c i Tb h, readNew c i Tb h, readNewRows c i Tb hc2 h, hi,
      wd_at c a2 Cb _ (k := 0) rfl, wd_at c a2 Cb _ (k := 1) rfl, wd_at c a2 Cb _ (k := 2) rfl, ← hbk]
    rfl
  · intro r d hb
    unfold stepS0
    rw [read_write_rows2 c i Sb _ _ (k1_off4_eq i), if_neg hb]

/-- The body in a later sweep keeps the invariant, one row block further. -/
theorem inv_step (hc3 : k1_cond3 i = 1#1) (hi : 0 < (i 0).val) (a2 : Memref sig .tc .smem S8 .f32) (Cb : Bf (F := F) c a2)
    (h : Inv Lp X X1 (coef (a2.view.read (Elt F) Cb)) (i 0).val (i 1).val (scT.view.read (Elt F) Tb) (scS.view.read (Elt F) Sb)) :
    Inv Lp X X1 (coef (a2.view.read (Elt F) Cb)) (i 0).val ((i 1).val + 1) (scT.view.read (Elt F) (stepT c i (lblk Lp (blkOf i)) Tb))
      (scS.view.read (Elt F) (stepS c i hc3 a2 Cb (lblk Lp (blkOf i)) Tb Sb)) := by
  refine inv_T c i Tb h ?_ ?_
  · intro r d h0 h1
    have hbk : rowBlk r = blkOf i := rowBlk_eq _ _ h0 h1
    obtain ⟨s', hs⟩ : ∃ s', (i 0).val = s' + 1 := ⟨(i 0).val - 1, by omega⟩
    unfold stepS accOf
    rw [read_write_rows2 c i Sb _ _ (k1_off5_eq i), if_pos ⟨h0, h1⟩, readOld c i Tb h, readNew c i Tb h,
      read_rows2 c i Sb _ _ (k1_off5_eq i) (psum Lp X X1 (coef (a2.view.read (Elt F) Cb)) s') (fun r' d' h0' _ => h.stodo r' d' h0' s' hs), hs,
      wd_at c a2 Cb _ (k := s' + 3) ((congrFun (k1_off6_eq i) 0).trans (by show (i 0).val + 2 = s' + 3; omega)), ← hbk]
    rfl
  · intro r d hb
    unfold stepS
    rw [read_write_rows2 c i Sb _ _ (k1_off5_eq i), if_neg hb]

/-- What the last sweep stores: the row block of the whole sum. -/
theorem out_eq (hc4 : k1_cond4 i = 1#1) (h : Inv Lp X X1 C (i 0).val ((i 1).val + 1) T (scS.view.read (Elt F) Sb)) :
    outOf c i hc4 Sb = rows2 (blkOf i) (psum Lp X X1 C (i 0).val) :=
  read_rows2 c i Sb _ _ (k1_off7_eq i) _ fun r d _ h1 => h.sdone r d (by omega)

/-- One slot of the terms' scratch written whole by a transfer: its rows read the payload, the other slot is kept. -/
theorem read_slot (n : Fin 2) (hin : ∀ a, ![n.val, 0, 0] a + S1x10000x128.size a ≤ S2x10000x128.size a) (A : S10000x128.Idx → Elt F .bf16)
    (hn : S10000x128.numel = S1x10000x128.numel) (a : Fin 2) (r : Fin 10000) (d : Fin 128) :
    scT.view.read (Elt F) (View.write (Elt F) ((scT.view.slice (Rect.unit (s := S2x10000x128) ![n.val, 0, 0] S1x10000x128.size hin)).reshape S10000x128 hn) Tb A Finset.univ) (ix3 a r d)
      = if a = n then A (ix2 r d) else scT.view.read (Elt F) Tb (ix3 a r d) := by
  rw [View.write_reshape_univ]
  split_ifs with hb
  · subst hb
    have e : ix3 a r d = (Rect.unit (s := S2x10000x128) ![a.val, 0, 0] S1x10000x128.size hin).emb (ix3 (0 : Fin 1) r d) := by
      funext b
      refine Fin.ext ?_
      match b with
      | ⟨0, _⟩ => show a.val = a.val + 1 * 0; omega
      | ⟨1, _⟩ => show r.val = 0 + 1 * r.val; omega
      | ⟨2, _⟩ => show d.val = 0 + 1 * d.val; omega
    rw [e, View.read_slice_write_emb _ _ _ (Finset.mem_univ _)]
    refine congrArg A ?_
    rw [Equiv.symm_apply_eq]
    exact (reshapeEquiv_ix2_1ab hn r d).symm
  · refine View.read_slice_write_of_not_mem _ _ _ _ ?_
    intro hm
    obtain ⟨x, -, hx⟩ := Finset.mem_map.mp hm
    have h0 : n.val + 1 * (x 0).val = a.val := congrArg Fin.val (congrFun hx 0)
    have h1 : (x 0).val < 1 := (x 0).isLt
    exact hb (Fin.ext (by omega))

/-- The two transfers of the first point bring the invariant about. -/
theorem inv_landed (Xb : Bf (F := F) c (Memref.whole main_v0)) (X1b : Bf (F := F) c (Memref.whole main_v1_1)) :
    Inv Lp ((Memref.whole main_v0).view.read (Elt F) Xb) ((Memref.whole main_v1_1).view.read (Elt F) X1b) C 0 0
      (scT.view.read (Elt F) (landed c Tb Xb X1b)) S where
  new a r d ha := by
    obtain rfl : a = 1 := Fin.ext ha
    exact (read_slot c _ 1 _ _ _ 1 r d).trans (if_pos rfl)
  done a r d _ hr := absurd hr (by omega)
  todo a r d ha _ := by
    obtain rfl : a = 0 := Fin.ext ha
    refine (read_slot c _ 1 _ _ _ 0 r d).trans ((if_neg (by decide)).trans ?_)
    exact (read_slot c _ 0 _ _ _ 0 r d).trans (if_pos rfl)
  sdone r d hr := absurd hr (by omega)
  stodo r d _ s' e := absurd e (by omega)

end Cert.KernelIdeal.Hand
end
-- ==== Proof.Stage.lean ====
module

public import proofs.«01_k».proof.Proof.Body
public import proofs.«01_k».proof.Proof.Gen.KernelIdeal.Launch
public import Idealize.ShloMosaic.Lib.Pipeline.FrameBody
public import Idealize.ShloMosaic.Lib.VecWindow
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

/-- A whole memref owned at `d` is its buffer held at some contents that read `d`. -/
theorem owns_pt (c : Dev nD) {sp : Space} {S : Shape} {e : EltTy} (M : Memref sig .tc sp S e) (h : M.IsWhole) (d : S.Idx → Elt F e) :
    (owns (c : Thread nD τ) M fullShare d : sProp 𝕄) = iprop(∃ f : Bf (F := F) c M, ⌜M.view.read (Elt F) f = d⌝ ∗ pt c M f) := by
  unfold owns; rw [h.set_eq_univ]

/-- A store of a whole buffer reads back what was stored. -/
theorem read_store {sp : Space} {S : Shape} {e : EltTy} (v : View sig .tc sp S e) (f : v.ty.Contents (Elt F)) {off : Fin S.rank → ℕ}
    (inb : ∀ a, off a + S.size a ≤ S.size a) (w : S.Idx → Elt F e) : v.read (Elt F) (v.writes (Elt F) f [⟨Rect.unit off S.size inb, w⟩]) = w := by
  funext y
  refine View.read_writes_cons_unit_of_mem v f inb w [] y y rfl fun a => ?_
  have := inb a; omega

/-- The staging kernel's body: the two inputs kept, the first output the block narrowed, the second its product with the features. -/
theorem run0 (c : Dev nD) (i : grid0.Coords) (a1 : Memref sig .tc .vmem S400x10000 .f32) (h1 : a1.IsWhole) (a2 : Memref sig .tc .vmem S10000x128 .bf16) (h2 : a2.IsWhole)
    (a3 : Memref sig .tc .vmem S400x10000 .bf16) (h3 : a3.IsWhole) (a4 : Memref sig .tc .vmem S400x128 .bf16) (h4 : a4.IsWhole)
    (f1 : Bf (F := F) c a1) (f2 : Bf (F := F) c a2) (f3 : Bf (F := F) c a3) (f4 : Bf (F := F) c a4) :
    ∀ (Q : PUnit → sProp 𝕄),
    iprop(pt c a1 f1 ∗ pt c a2 f2 ∗ pt c a3 f3 ∗ pt c a4 f4
        ∗ (iprop(pt c a1 f1 ∗ pt c a2 f2
          ∗ pt c a3 (a3.view.writes (Elt F) f3 [⟨Rect.unit (s := S400x10000) ![0, 0] S400x10000.size inb_S400x10000_S400x10000_0_0, k0_pay1 (a1.view.read (Elt F) f1)⟩])
          ∗ pt c a4 (a4.view.writes (Elt F) f4 [⟨Rect.unit (s := S400x128) ![0, 0] S400x128.size inb_S400x128_S400x128_0_0, k0_pay2 (a1.view.read (Elt F) f1) (a2.view.read (Elt F) f2)⟩])) -∗ Q ⟨⟩))
      ⊢ wp frame (wpE (defs₀ (F := F)) Variants.none c none) Set.univ (cc0__stage_kernel i a1 h1 a2 h2 a3 h3 a4 h4) Q := by
  intro Q
  rw [← View.readAt_full a1.view f1 inb_S400x10000_S400x10000_0_0, ← View.readAt_full a2.view f2 inb_S10000x128_S10000x128_0_0]
  simp only [cc0__stage_kernel_eq_skeleton]; unfold cc0__stage_kernel_skel
  iintro ⟨H1, H2, H3, H4, Hk⟩
  sl_exec
  sl_step
  iapply Hk
  isplitl [H1]; · iexact H1
  isplitl [H2]; · iexact H2
  isplitl [H3]; · iexact H3
  iexact H4

variable (V : Dev nD → Valuation τ sig (Elt F))

/-- The blocks the staging kernel is handed at point `t`: 400 rows of the Laplacian, the features whole. -/
abbrev stgL (c : Dev nD) (t : Fin cfg0.N) : S400x10000.Idx → Elt F .f32 := ((cfg0.win 0).blk t).view.read (Elt F) (V c main_arg0)
abbrev stgX (c : Dev nD) (t : Fin cfg0.N) : S10000x128.Idx → Elt F .bf16 := ((cfg0.win 1).blk t).view.read (Elt F) (V c main_v0)

/-- The staging region's proof data from contents `V`: the inputs left in place, the outputs as `run0` says. -/
def dat0 (c : Dev nD) : Dat τ (Elt F) Unit ℕ UU ℕ cfg0 c where
  A w := V c (Pipeline.arrRef spec0 w)
  after w t := match w with
    | ⟨0, _⟩ => stgL V c t
    | ⟨1, _⟩ => stgX V c t
    | ⟨2, _⟩ => k0_pay1 (stgL V c t)
    | ⟨3, _⟩ => k0_pay2 (stgL V c t) (stgX V c t)
  Φ _ := Pipeline.scopedRest (Ix := Unit) (Name := ℕ) (U := UU) (Lvl := ℕ) (Val := Elt F) spec0 c
  q _ := fullShare
  owed _ := 0

theorem before0_0 (c : Dev nD) (t : Fin cfg0.N) (d) : (dat0 V c).before 0 t d = stgL V c t :=
  (dat0 V c).before_in_eq_fetched 0 rfl (fun _ => rfl) (fun _ _ _ => rfl) (fun _ => rfl) t d
theorem before0_1 (c : Dev nD) (t : Fin cfg0.N) (d) : (dat0 V c).before 1 t d = stgX V c t :=
  (dat0 V c).before_in_eq_fetched 1 rfl (fun _ => rfl) (fun _ _ _ => rfl) (fun _ => rfl) t d

theorem defs₀_row0 (t : Fin cfg0.N) : defs₀ (F := F) .tc cfg0.body (cfg0.bodyArgs t (cfg0.slots t)) = bodyAt0 t := by
  unfold defs₀; rw [Defs.onTc_tc]

/-- What the staging kernel is called with at point `t`, and what it returns. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)) ∗ (∃ d, owns (c : Thread nD τ) (st0_1 t) fullShare ((dat0 V c).before 1 t d))
    ∗ (∃ d, owns (c : Thread nD τ) (st0_2 t) fullShare ((dat0 V c).before 2 t d)) ∗ (∃ d, owns (c : Thread nD τ) (st0_3 t) fullShare ((dat0 V c).before 3 t d)))
def post0 (c : Dev nD) (t : Fin cfg0.N) : sProp 𝕄 :=
  iprop((dat0 V c).Φ t.succ ∗ (dat0 V c).owesAt () t.succ
    ∗ owns (c : Thread nD τ) (st0_0 t) fullShare (stgL V c t) ∗ owns (c : Thread nD τ) (st0_1 t) fullShare (stgX V c t)
    ∗ owns (c : Thread nD τ) (st0_2 t) fullShare (k0_pay1 (stgL V c t)) ∗ owns (c : Thread nD τ) (st0_3 t) fullShare (k0_pay2 (stgL V c t) (stgX V c t)))

theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl, show (dat0 V c).owesAt () t.succ = (dat0 V c).owesAt () t.castSucc from rfl]
  simp only [st0_0, st0_1, st0_2, st0_3]
  have e0 := fun d => owns_pt (F := F) c ((cfg0.win 0).stage (cfg0.slots t 0)) (hstage0_0 ((cfg0.slots t 0).cast nbuf0_0)) d
  have e1 := fun d => owns_pt (F := F) c ((cfg0.win 1).stage (cfg0.slots t 1)) (hstage0_1 ((cfg0.slots t 1).cast nbuf0_1)) d
  have e2 := fun d => owns_pt (F := F) c ((cfg0.win 2).stage (cfg0.slots t 2)) (hstage0_2 ((cfg0.slots t 2).cast nbuf0_2)) d
  have e3 := fun d => owns_pt (F := F) c ((cfg0.win 3).stage (cfg0.slots t 3)) (hstage0_3 ((cfg0.slots t 3).cast nbuf0_3)) d
  simp only [e0, e1, e2, e3]
  iintro ⟨HΦ, HO, ⟨%d0, %f0, %hf0, H0⟩, ⟨%d1, %f1, %hf1, H1⟩, ⟨%d2, %f2, -, H2⟩, ⟨%d3, %f3, -, H3⟩⟩
  iapply (run0 c (grid0.coords t) _ _ _ _ _ _ _ _ f0 f1 f2 f3 _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists f0; isplitr; swap; · iexact H0
    ipureintro; exact hf0
  isplitl [H1]
  · iexists f1; isplitr; swap; · iexact H1
    ipureintro; exact hf1
  isplitl [H2]
  · iexists _; isplitr; swap; · iexact H2
    ipureintro; rw [read_store]; exact congrArg k0_pay1 hf0
  iexists _; isplitr; swap; · iexact H3
  ipureintro; rw [read_store]; exact congrArg₂ k0_pay2 hf0 hf1

/-- The library's body obligation of the staging region. -/
theorem body_obligation0 (c : Dev nD) : BodyObligation (dat0 V c) (defs₀ (F := F)) Variants.none () Set.univ := fun t => by
  rw [bigSep_W0, bigSep_W0, defs₀_row0]
  exact triple_restated (sound0 V c t) rfl .rfl fun _ => .rfl

end Cert.KernelIdeal.Hand
end
-- ==== Proof.Rec.lean ====
module

public import proofs.«01_k».proof.Proof.Steps
public import proofs.«01_k».proof.Proof.Stage
public import Idealize.ShloMosaic.Lib.Pipeline.DatRel
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ UU ℕ

/-! ## The grid -/

theorem co0 : ∀ t : Fin grid1.N, (grid1.coords t 0).val = t.val / 10 := by decide +kernel
theorem co1 : ∀ t : Fin grid1.N, (grid1.coords t 1).val = t.val % 10 := by decide +kernel
theorem cond1_iff : ∀ t : Fin grid1.N, k1_cond1 (grid1.coords t) = 1#1 ↔ t.val = 0 := by decide +kernel
theorem cond2_iff : ∀ t : Fin grid1.N, k1_cond2 (grid1.coords t) = 1#1 ↔ t.val < 10 := by decide +kernel
theorem cond3_iff : ∀ t : Fin grid1.N, k1_cond3 (grid1.coords t) = 1#1 ↔ 10 ≤ t.val := by decide +kernel
theorem cond4_iff : ∀ t : Fin grid1.N, k1_cond4 (grid1.coords t) = 1#1 ↔ 50 ≤ t.val := by decide +kernel
theorem idx1_0 : ∀ t : Fin grid1.N, win1_0.index t = ![0] := by decide +kernel
theorem idx1_1 : ∀ t : Fin grid1.N, win1_1.index t = ![t.val % 10, 0] := by decide +kernel
theorem idx1_2 : ∀ t : Fin grid1.N, win1_2.index t = ![t.val % 10, 0] := by decide +kernel

/-! ## The region's data -/

variable (V : Dev nD → Valuation τ sig (Elt F))

/-- The region's inputs: the staged Laplacian, the staged features, their first product, the coefficients. -/
abbrev inL (c : Dev nD) : S10000x10000.Idx → Elt F .bf16 := V c main_v1_0
abbrev inX (c : Dev nD) : S10000x128.Idx → Elt F .bf16 := V c main_v0
abbrev inX1 (c : Dev nD) : S10000x128.Idx → Elt F .bf16 := V c main_v1_1
abbrev inC (c : Dev nD) : S8.Idx → Elt F .f32 := V c main_arg2

/-- The running sum after sweep `s`, of the region's inputs. -/
abbrev sumAt (c : Dev nD) (s : ℕ) : S10000x128.Idx → Elt F .f32 := psum (inL V c) (inX V c) (inX1 V c) (coef (inC V c)) s

/-- What the scratches hold before point `n`: anything before the first, afterwards the recurrence so far. -/
def Ph (c : Dev nD) (n : ℕ) (T : S2x10000x128.Idx → Elt F .bf16) (S : S10000x128.Idx → Elt F .f32) : Prop :=
  n = 0 ∨ Inv (inL V c) (inX V c) (inX1 V c) (coef (inC V c)) (n / 10) (n % 10) T S

theorem Ph.succ {V : Dev nD → Valuation τ sig (Elt F)} {c : Dev nD} {n : ℕ} {T : S2x10000x128.Idx → Elt F .bf16} {S : S10000x128.Idx → Elt F .f32}
    (h : Inv (inL V c) (inX V c) (inX1 V c) (coef (inC V c)) (n / 10) (n % 10 + 1) T S) : Ph V c (n + 1) T S := by
  right
  by_cases h9 : n % 10 = 9
  · rw [h9] at h
    rw [show (n + 1) / 10 = n / 10 + 1 by omega, show (n + 1) % 10 = 0 by omega]
    exact h.next
  · rw [show (n + 1) / 10 = n / 10 by omega, show (n + 1) % 10 = n % 10 + 1 by omega]
    exact h

/-- A buffer held whole at some contents. -/
abbrev anyBuf (c : Dev nD) (b : Ref sig .tc) : sProp 𝕄 := iprop(∃ f : Buf (Elt F) ((c : Thread nD τ).loc b), ((c : Thread nD τ).loc b) ↦{fullShare} f)
/-- The staging region's own buffers, which this region never touches. -/
abbrev others (c : Dev nD) : sProp 𝕄 :=
  iprop(anyBuf (F := F) c cc0_stg0_0 ∗ anyBuf (F := F) c cc0_stg0_1 ∗ anyBuf (F := F) c cc0_stg1_0 ∗ anyBuf (F := F) c cc0_stg2_0 ∗ anyBuf (F := F) c cc0_stg2_1 ∗ anyBuf (F := F) c cc0_stg3_0 ∗ anyBuf (F := F) c cc0_stg3_1)

/-- What is held between two points. -/
def Phi1 (c : Dev nD) (n : ℕ) : sProp 𝕄 :=
  iprop(∃ (T : Bf (F := F) c scT) (S : Bf (F := F) c scS), ⌜Ph V c n (scT.view.read (Elt F) T) (scS.view.read (Elt F) S)⌝ ∗ pt c scT T ∗ pt c scS S
    ∗ semVal ((c : Thread nD τ), SemLoc.dma 12) 0 ∗ semVal ((c : Thread nD τ), SemLoc.dma 13) 0
    ∗ pt c (Memref.whole main_v0) (V c main_v0) ∗ pt c (Memref.whole main_v1_1) (V c main_v1_1) ∗ others c)

/-- The blocks the recurrence kernel is handed at point `t`. -/
abbrev recC (c : Dev nD) (t : Fin cfg1.N) : S8.Idx → Elt F .f32 := ((cfg1.win 0).blk t).view.read (Elt F) (V c main_arg2)
abbrev recL (c : Dev nD) (t : Fin cfg1.N) : S1000x10000.Idx → Elt F .bf16 := ((cfg1.win 1).blk t).view.read (Elt F) (V c main_v1_0)

theorem recC_eq (c : Dev nD) (t : Fin cfg1.N) : recC V c t = inC V c := by
  funext y
  show V c main_arg2 (((cfg1.win 0).blk t).view.emb y) = V c main_arg2 y
  have e := idx1_0 t
  blk_ext [e]

theorem recL_eq (c : Dev nD) (t : Fin cfg1.N) : recL V c t = lblk (inL V c) (blkOf (grid1.coords t)) := by
  funext y
  show V c main_v1_0 (((cfg1.win 1).blk t).view.emb y) = V c main_v1_0 (ix2 (rowOf (blkOf (grid1.coords t)) (y 0)) (y 1))
  have e := idx1_1 t
  have h1 := co1 t
  refine congrArg (V c main_v1_0) ?_
  funext a
  refine Fin.ext ?_
  match a with
  | ⟨0, _⟩ => blk_simp [e]; show t.val % 10 * 1000 + (y 0).val = 1000 * (grid1.coords t 1).val + (y 0).val; omega
  | ⟨1, _⟩ => blk_simp [e]; rfl

/-- The exact half of the region's data: the inputs left in place (the output's half is `Rl1`). -/
def dat1 (c : Dev nD) : Dat τ (Elt F) Unit ℕ UU ℕ cfg1 c where
  A w := V c (Pipeline.arrRef spec1 w)
  after w t := match w with
    | ⟨0, _⟩ => recC V c t
    | ⟨1, _⟩ => recL V c t
    | ⟨2, _⟩ => rows2 (blkOf (grid1.coords t)) (sumAt V c 5)
  Φ t := Phi1 V c t.val
  q _ := fullShare
  owed _ := 0

/-- The output window is the one not left at named contents. -/
def fgt1 : Fin cfg1.W → Bool := fun w => match w with
  | ⟨0, _⟩ => false
  | ⟨1, _⟩ => false
  | ⟨2, _⟩ => true

/-- What the last sweep leaves in the output window: the row block of the whole sum. -/
def Rl1 (c : Dev nD) : (w : Fin cfg1.W) → Fin cfg1.N → ((cfg1.win w).block.Idx → Elt F (cfg1.win w).elt) → Prop := fun w t => match w with
  | ⟨0, _⟩ => fun _ => True
  | ⟨1, _⟩ => fun _ => True
  | ⟨2, _⟩ => fun X => 50 ≤ t.val → X = rows2 (blkOf (grid1.coords t)) (sumAt V c 5)

theorem before1_0 (c : Dev nD) (t : Fin cfg1.N) (d) : (dat1 V c).before 0 t d = recC V c t :=
  (dat1 V c).before_in_eq_fetched 0 rfl (fun _ => rfl) (fun _ _ _ => rfl) (fun _ => rfl) t d
theorem before1_1 (c : Dev nD) (t : Fin cfg1.N) (d) : (dat1 V c).before 1 t d = recL V c t :=
  (dat1 V c).before_in_eq_fetched 1 rfl (fun _ => rfl) (fun _ _ _ => rfl) (fun _ => rfl) t d

theorem defs₀_row1 (t : Fin cfg1.N) : defs₀ (F := F) .tc cfg1.body (cfg1.bodyArgs t (cfg1.slots t)) = bodyAt1 t := by
  unfold defs₀; rw [Defs.onTc_tc]

/-- What the recurrence kernel is called with at point `t`, and what it returns. -/
def pre1 (c : Dev nD) (t : Fin cfg1.N) : sProp 𝕄 :=
  iprop(Phi1 V c t.val ∗ (dat1 V c).owesAt () t.castSucc
    ∗ (∃ d, owns (c : Thread nD τ) (st1_0 t) fullShare ((dat1 V c).before 0 t d)) ∗ (∃ d, owns (c : Thread nD τ) (st1_1 t) fullShare ((dat1 V c).before 1 t d))
    ∗ (∃ Y, ⌜((dat1 V c).toRRel fgt1 (Rl1 V c)).Finds 2 t Y⌝ ∗ owns (c : Thread nD τ) (st1_2 t) fullShare Y))
def post1 (c : Dev nD) (t : Fin cfg1.N) : sProp 𝕄 :=
  iprop(Phi1 V c (t.val + 1) ∗ (dat1 V c).owesAt () t.castSucc
    ∗ owns (c : Thread nD τ) (st1_0 t) fullShare (recC V c t) ∗ owns (c : Thread nD τ) (st1_1 t) fullShare (recL V c t)
    ∗ (∃ X, ⌜Rl1 V c 2 t X⌝ ∗ owns (c : Thread nD τ) (st1_2 t) fullShare X))

/-- The row block as loaded is the whole of its window. -/
theorem lb_eq (c : Dev nD) (a3 : Memref sig .tc .vmem S1000x10000 .bf16) (L : Bf (F := F) c a3) : lb c a3 L = a3.view.read (Elt F) L :=
  View.readAt_full a3.view L inb_S1000x10000_S1000x10000_0_0

/-- The recurrence kernel's body at point `t`. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1]
  simp only [st1_0, st1_1, st1_2]
  have e0 := fun d => owns_pt (F := F) c ((cfg1.win 0).stage (cfg1.slots t 0)) (hstage1_0 ((cfg1.slots t 0).cast nbuf1_0)) d
  have e1 := fun d => owns_pt (F := F) c ((cfg1.win 1).stage (cfg1.slots t 1)) (hstage1_1 ((cfg1.slots t 1).cast nbuf1_1)) d
  have e2 := fun d => owns_pt (F := F) c ((cfg1.win 2).stage (cfg1.slots t 2)) (hstage1_2 ((cfg1.slots t 2).cast nbuf1_2)) d
  simp only [e0, e1, e2, recC_eq, recL_eq]
  unfold Phi1
  iintro ⟨⟨%T, %S, %hT, HT, HS, Hd0, Hd1, HX, HX1, Hr⟩, HO, ⟨%d0, %f0, %hf0, H0⟩, ⟨%d1, %f1, %hf1, H1⟩, ⟨%Y, %hY, %f2, %hf2, H2⟩⟩
  have h0 := co0 t
  have h1 := co1 t
  have hl : lb c ((cfg1.win 1).stage (cfg1.slots t 1)) f1 = lblk (inL V c) (blkOf (grid1.coords t)) :=
    (lb_eq c _ f1).trans hf1
  have hfin : ∀ {T' : S2x10000x128.Idx → Elt F .bf16} {S' : S10000x128.Idx → Elt F .f32},
      Inv (inL V c) (inX V c) (inX1 V c) (coef (((cfg1.win 0).stage (cfg1.slots t 0)).view.read (Elt F) f0)) (grid1.coords t 0).val ((grid1.coords t 1).val + 1) T' S' → Ph V c (t.val + 1) T' S' := by
    intro T' S' h
    rw [h0, h1, hf0] at h
    exact Ph.succ h
  by_cases hA : t.val = 0
  · -- the first point: the two transfers, then the first sweep's body
    have hc1 := (cond1_iff t).mpr hA
    have hc2 := (cond2_iff t).mpr (by omega)
    have hc3 : ¬ k1_cond3 (grid1.coords t) = 1#1 := fun h => by have := (cond3_iff t).mp h; omega
    have hc4 : ¬ k1_cond4 (grid1.coords t) = 1#1 := fun h => by have := (cond4_iff t).mp h; omega
    unfold Dat.owesAt Pipeline.owesWithin
    icases HO with ⟨%W, %hW, HO⟩
    iapply (runA c (grid1.coords t) _ _ _ _ _ (hstage1_2 ((cfg1.slots t 2).cast nbuf1_2)) hc1 hc2 hc3 hc4 f0 f1 T S (V c main_v0) (V c main_v1_1) W _)
    isplitl [H0]; · iexact H0
    isplitl [H1]; · iexact H1
    isplitl [HT]; · iexact HT
    isplitl [HS]; · iexact HS
    isplitl [HX]; · iexact HX
    isplitl [HX1]; · iexact HX1
    isplitl [Hd0]; · iexact Hd0
    isplitl [Hd1]; · iexact Hd1
    isplitl [HO]; · iexact HO
    iintro ⟨H0, H1, HT, HS, HX, HX1, Hd0, Hd1, ⟨%W', HO⟩⟩
    rw [hl]
    isplitl [HT HS HX HX1 Hd0 Hd1 Hr]
    · iexists _; iexists _
      isplitr
      swap
      · isplitl [HT]; · iexact HT
        isplitl [HS]; · iexact HS
        isplitl [Hd0]; · iexact Hd0
        isplitl [Hd1]; · iexact Hd1
        isplitl [HX]; · iexact HX
        isplitl [HX1]; · iexact HX1
        iexact Hr
      · ipureintro
        refine hfin (inv_step0 c (grid1.coords t) _ _ hc2 (by omega) _ f0 ?_)
        rw [h0, h1, hA]
        exact inv_landed c T (V c main_v0) (V c main_v1_1)
    isplitl [HO]
    · iexists W'; isplitr; swap; · iexact HO
      ipureintro; exact fun _ _ => Or.inl trivial
    isplitl [H0]
    · iexists f0; isplitr; swap; · iexact H0
      ipureintro; exact hf0
    isplitl [H1]
    · iexists f1; isplitr; swap; · iexact H1
      ipureintro; exact hf1
    iexists Y; isplitr
    · ipureintro; exact fun h => absurd h (by omega)
    iexists f2; isplitr; swap; · iexact H2
    ipureintro; exact hf2
  have hinv : Inv (inL V c) (inX V c) (inX1 V c) (coef (((cfg1.win 0).stage (cfg1.slots t 0)).view.read (Elt F) f0)) (grid1.coords t 0).val (grid1.coords t 1).val
      (scT.view.read (Elt F) T) (scS.view.read (Elt F) S) := by
    rw [h0, h1, hf0]; exact hT.resolve_left hA
  have hc1 : ¬ k1_cond1 (grid1.coords t) = 1#1 := fun h => hA ((cond1_iff t).mp h)
  by_cases hB : t.val < 10
  · -- the rest of the first sweep
    have hc2 := (cond2_iff t).mpr hB
    have hc3 : ¬ k1_cond3 (grid1.coords t) = 1#1 := fun h => by have := (cond3_iff t).mp h; omega
    have hc4 : ¬ k1_cond4 (grid1.coords t) = 1#1 := fun h => by have := (cond4_iff t).mp h; omega
    iapply (runB c (grid1.coords t) _ _ _ _ _ _ _ _ _ (hstage1_2 ((cfg1.slots t 2).cast nbuf1_2)) hc1 hc2 hc3 hc4 f0 f1 T S _)
    isplitl [H0]; · iexact H0
    isplitl [H1]; · iexact H1
    isplitl [HT]; · iexact HT
    isplitl [HS]; · iexact HS
    iintro ⟨H0, H1, HT, HS⟩
    rw [hl]
    isplitl [HT HS HX HX1 Hd0 Hd1 Hr]
    · iexists _; iexists _
      isplitr
      swap
      · isplitl [HT]; · iexact HT
        isplitl [HS]; · iexact HS
        isplitl [Hd0]; · iexact Hd0
        isplitl [Hd1]; · iexact Hd1
        isplitl [HX]; · iexact HX
        isplitl [HX1]; · iexact HX1
        iexact Hr
      · ipureintro
        exact hfin (inv_step0 c (grid1.coords t) _ _ hc2 (by omega) _ f0 hinv)
    isplitl [HO]; · iexact HO
    isplitl [H0]
    · iexists f0; isplitr; swap; · iexact H0
      ipureintro; exact hf0
    isplitl [H1]
    · iexists f1; isplitr; swap; · iexact H1
      ipureintro; exact hf1
    iexists Y; isplitr
    · ipureintro; exact fun h => absurd h (by omega)
    iexists f2; isplitr; swap; · iexact H2
    ipureintro; exact hf2
  have hc2 : ¬ k1_cond2 (grid1.coords t) = 1#1 := fun h => hB ((cond2_iff t).mp h)
  have hc3 := (cond3_iff t).mpr (by omega)
  have hnext := inv_step c (grid1.coords t) T S hc3 (by omega) _ f0 hinv
  by_cases hD : t.val < 50
  · -- the sweeps between
    have hc4 : ¬ k1_cond4 (grid1.coords t) = 1#1 := fun h => by have := (cond4_iff t).mp h; omega
    iapply (runC c (grid1.coords t) _ _ _ _ _ _ _ _ _ (hstage1_2 ((cfg1.slots t 2).cast nbuf1_2)) hc1 hc2 hc3 hc4 f0 f1 T S _)
    isplitl [H0]; · iexact H0
    isplitl [H1]; · iexact H1
    isplitl [HT]; · iexact HT
    isplitl [HS]; · iexact HS
    iintro ⟨H0, H1, HT, HS⟩
    rw [hl]
    isplitl [HT HS HX HX1 Hd0 Hd1 Hr]
    · iexists _; iexists _
      isplitr
      swap
      · isplitl [HT]; · iexact HT
        isplitl [HS]; · iexact HS
        isplitl [Hd0]; · iexact Hd0
        isplitl [Hd1]; · iexact Hd1
        isplitl [HX]; · iexact HX
        isplitl [HX1]; · iexact HX1
        iexact Hr
      · ipureintro
        exact hfin hnext
    isplitl [HO]; · iexact HO
    isplitl [H0]
    · iexists f0; isplitr; swap; · iexact H0
      ipureintro; exact hf0
    isplitl [H1]
    · iexists f1; isplitr; swap; · iexact H1
      ipureintro; exact hf1
    iexists Y; isplitr
    · ipureintro; exact fun h => absurd h (by omega)
    iexists f2; isplitr; swap; · iexact H2
    ipureintro; exact hf2
  · -- the last sweep: the block stored
    have hc4 := (cond4_iff t).mpr (by omega)
    iapply (runD c (grid1.coords t) _ _ _ _ _ _ _ _ _ (hstage1_2 ((cfg1.slots t 2).cast nbuf1_2)) hc1 hc2 hc3 hc4 f0 f1 T S f2 _)
    isplitl [H0]; · iexact H0
    isplitl [H1]; · iexact H1
    isplitl [HT]; · iexact HT
    isplitl [HS]; · iexact HS
    isplitl [H2]; · iexact H2
    iintro ⟨H0, H1, HT, HS, H2⟩
    rw [hl]
    isplitl [HT HS HX HX1 Hd0 Hd1 Hr]
    · iexists _; iexists _
      isplitr
      swap
      · isplitl [HT]; · iexact HT
        isplitl [HS]; · iexact HS
        isplitl [Hd0]; · iexact Hd0
        isplitl [Hd1]; · iexact Hd1
        isplitl [HX]; · iexact HX
        isplitl [HX1]; · iexact HX1
        iexact Hr
      · ipureintro
        exact hfin hnext
    isplitl [HO]; · iexact HO
    isplitl [H0]
    · iexists f0; isplitr; swap; · iexact H0
      ipureintro; exact hf0
    isplitl [H1]
    · iexists f1; isplitr; swap; · iexact H1
      ipureintro; exact hf1
    iexists (rows2 (blkOf (grid1.coords t)) (sumAt V c 5)); isplitr
    · ipureintro; exact fun _ => rfl
    iexists _; isplitr; swap; · iexact H2
    ipureintro
    have ht : t.val < 60 := t.isLt
    refine (read_store _ _ _ _).trans ?_
    rw [out_eq c (grid1.coords t) _ hc4 hnext, hf0, show (grid1.coords t 0).val = 5 by omega]

/-- The library's body obligation of the recurrence region, the output window held to `Rl1`. -/
theorem body_obligation1 (c : Dev nD) : BodyObligationRel (dat1 V c) (defs₀ (F := F)) Variants.none () Set.univ fgt1 (Rl1 V c) := fun t => by
  rw [bigSep_W1, bigSep_W1, defs₀_row1]
  exact triple_restated (sound1 V c t) rfl .rfl fun _ => .rfl

end Cert.KernelIdeal.Hand
end
-- ==== Proof.Segments.lean ====
module

public import proofs.«01_k».proof.Proof.Rec
public import proofs.«01_k».proof.Proof.Gen.KernelIdeal.Regions
public import Idealize.ShloMosaic.Lib.Pipeline.RegionsLoop
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UU ℕ

/-- No core owes another anything: no level is assigned. -/
abbrev L₀ : GSem nD τ sig → Finset Unit := fun _ => ∅
abbrev lv₀ : GSem nD τ sig → Unit → ℕ := fun _ _ => 0

variable (V V' : Dev nD → Valuation τ sig (Elt F))

/-- Both regions' data, the first entered at `V`, the second at `V'`: exact, and as the launch takes them. -/
def pdats : (p : Fin 2) → (c : Dev nD) → Dat τ (Elt F) Unit ℕ UU ℕ (Pipeline.pin (pcfgs (F := F)) adm p) c
  | ⟨0, _⟩ => fun c => dat0 V c
  | ⟨1, _⟩ => fun c => dat1 V' c
def rdats : (p : Fin 2) → (c : Dev nD) → RDat τ (Elt F) Unit ℕ UU ℕ (Pipeline.pin (pcfgs (F := F)) adm p) c
  | ⟨0, _⟩ => fun c => (dat0 V c).toR
  | ⟨1, _⟩ => fun c => (dat1 V' c).toRRel fgt1 (Rl1 V' c)

/-- The valuation the staging region leaves: its two outputs' arrays as written back. -/
def Vp0 (c : Dev nD) : Valuation τ sig (Elt F) :=
  Function.update (Function.update (V c) main_v1_0 ((dat0 V c).arrAt 2 cfg0.N)) main_v1_1 ((dat0 V c).arrAt 3 cfg0.N)
/-- The valuation the recurrence region leaves: the result's array the whole sum. -/
def Vp1 (c : Dev nD) : Valuation τ sig (Elt F) := Function.update (V c) main_v2 (sumAt V c 5)

theorem Vp0_of (c : Dev nD) (b : Ref sig .tc) (h0 : b ≠ main_v1_0) (h1 : b ≠ main_v1_1) : Vp0 V c b = V c b := by
  unfold Vp0
  rw [Function.update_of_ne (StableHlo.devRef_ne_of_ne h1), Function.update_of_ne (StableHlo.devRef_ne_of_ne h0)]
theorem Vp0_L (c : Dev nD) : Vp0 V c main_v1_0 = (dat0 V c).arrAt 2 cfg0.N := by
  unfold Vp0
  rw [Function.update_of_ne (StableHlo.devRef_ne_of_ne (by decide)), Function.update_self]
theorem Vp0_X1 (c : Dev nD) : Vp0 V c main_v1_1 = (dat0 V c).arrAt 3 cfg0.N := by
  unfold Vp0
  rw [Function.update_self]
theorem Vp1_of (c : Dev nD) (b : Ref sig .tc) (h : b ≠ main_v2) : Vp1 V c b = V c b := by
  unfold Vp1
  rw [Function.update_of_ne (StableHlo.devRef_ne_of_ne h)]
theorem Vp1_out (c : Dev nD) : Vp1 V c main_v2 = sumAt V c 5 := by
  unfold Vp1
  rw [Function.update_self]

/-! ## What the regions leave in their arrays -/

/-- Arrays of which one knows each one's contents are the arrays at those contents. -/
theorem arraysAt_named {cfg : Pipeline.Cfg sig Λ₀} {c : Dev nD} (rd : RDat τ (Elt F) Unit ℕ UU ℕ cfg c) (n : ℕ)
    (G : (w : Fin cfg.W) → Buf (Elt F) ((cfg.win w).arr.view.loc (c.tc : Thread nD τ))) (h : ∀ w f, rd.ArrAt w n f → f = G w) :
    rd.arraysAt n ⊢ (rd.arrays G : sProp 𝕄) := by
  unfold RDat.arraysAt RDat.arrays
  refine bigSep_mono fun w _ => ?_
  show (iprop(∃ f, ⌜rd.ArrAt w n f⌝ ∗ (cfg.win w).arr.view.loc (c.tc : Thread nD τ) ↦[(cfg.win w).arr.view.set]{rd.share w} f) : sProp 𝕄) ⊢ iprop((cfg.win w).arr.view.loc (c.tc : Thread nD τ) ↦[(cfg.win w).arr.view.set]{rd.share w} G w)
  iintro ⟨%f, %hf, H⟩
  rw [← h w f hf]
  iexact H

/-- The result's array after the write-backs below `n`: the whole sum at each row whose last-sweep block is written back. -/
theorem arr2_at (c : Dev nD) : ∀ (n : ℕ) (f : S10000x128.Idx → Elt F .f32), ((dat1 V c).toRRel fgt1 (Rl1 V c)).ArrAt 2 n f →
    ∀ (r : Fin 10000) (d : Fin 128), 50 + r.val / 1000 < n → n ≤ 60 → f (ix2 r d) = sumAt V c 5 (ix2 r d)
  | 0, f, hf, r, d, h, _ => absurd h (by omega)
  | n + 1, f, hf, r, d, h, hn => by
    have hlt : n < cfg1.N := by show n < 60; omega
    unfold RDat.ArrAt at hf
    rw [dif_pos hlt, if_pos (flush1_2 ⟨n, hlt⟩)] at hf
    obtain ⟨g, X, hg, hX, rfl⟩ := hf
    have hR : Rl1 V c 2 ⟨n, hlt⟩ X := (dat1 V c).toRRel_leaves rfl hX
    have ei := idx1_2 ⟨n, hlt⟩
    have e1 := co1 ⟨n, hlt⟩
    by_cases hb : r.val / 1000 = n % 10
    · have hX' : X = rows2 (blkOf (grid1.coords ⟨n, hlt⟩)) (sumAt V c 5) := hR (by show 50 ≤ n; omega)
      have hbk : rowBlk r = blkOf (grid1.coords ⟨n, hlt⟩) := Fin.ext (hb.trans e1.symm)
      have e : ix2 r d = ((cfg1.win 2).blk ⟨n, hlt⟩).view.emb (ix2 (rowIn r) d : S1000x128.Idx) := by
        funext a
        refine Fin.ext ?_
        match a with
        | ⟨0, _⟩ => blk_simp [ei]; show r.val = n % 10 * 1000 + r.val % 1000; omega
        | ⟨1, _⟩ => blk_simp [ei]
      rw [e, View.write_emb_of_mem _ _ (Finset.mem_univ _), ← e]
      show X (ix2 (rowIn r) d) = _
      rw [hX', ← hbk]
      show sumAt V c 5 (ix2 (rowOf (rowBlk r) (rowIn r)) d) = _
      rw [rowOf_rowBlk]
    · have hni : ix2 r d ∉ ((cfg1.win 2).blk ⟨n, hlt⟩).view.setOn Finset.univ := by
        intro hm
        obtain ⟨y, -, e⟩ := Finset.mem_map.mp hm
        have e0 : (((cfg1.win 2).blk ⟨n, hlt⟩).view.emb y (0 : Fin 2) : ℕ) = r.val := congrArg (fun j : S10000x128.Idx => (j 0).val) e
        blk_simp [ei] at e0
        have hy : (y 0).val < 1000 := (y 0).isLt
        have e0' : n % 10 * 1000 + (y 0).val = r.val := e0
        omega
      rw [View.write_of_not_mem _ _ _ hni]
      exact arr2_at c n g hg r d (by omega) (by omega)

theorem arr2_final (c : Dev nD) (f : S10000x128.Idx → Elt F .f32) (hf : ((dat1 V c).toRRel fgt1 (Rl1 V c)).ArrAt 2 cfg1.N f) : f = sumAt V c 5 := by
  funext y
  rw [show y = ix2 (y 0) (y 1) from funext fun a => match a with | ⟨0, _⟩ => rfl | ⟨1, _⟩ => rfl]
  have hy : (y 0).val < 10000 := (y 0).isLt
  exact arr2_at V c 60 f hf (y 0) (y 1) (by omega) (by omega)

/-! ## The regions -/

/-- The recurrence kernel's own two semaphores. -/
def osem1 : Fin 2 → SemLoc sig := fun j => (![SemLoc.dma 12, SemLoc.dma 13] : Fin 2 → SemLoc sig) j

theorem ownSemFacts1 : Pipeline.OwnSemFacts spec1 osem1 := by decide

theorem ownSems1_eq (c : Dev nD) :
    (Pipeline.ownSems0 osem1 c : sProp 𝕄) = iprop(semVal ((c : Thread nD τ), SemLoc.dma 12) 0 ∗ semVal ((c : Thread nD τ), SemLoc.dma 13) 0) := by
  rw [Pipeline.ownSems0_eq_of_list c osem1 [0, 1] (by decide) (by decide)]; rfl

/-- What the recurrence region takes into its invariant and gives back, and what bypasses it. -/
def X1 (c : Dev nD) : sProp 𝕄 :=
  iprop(semVal ((c : Thread nD τ), SemLoc.dma 12) 0 ∗ semVal ((c : Thread nD τ), SemLoc.dma 13) 0
    ∗ pt c (Memref.whole main_v0) (V c main_v0) ∗ pt c (Memref.whole main_v1_1) (V c main_v1_1))
def Y1 (c : Dev nD) : sProp 𝕄 := iprop(pt c (Memref.whole main_v0) (V c main_v0) ∗ pt c (Memref.whole main_v1_1) (V c main_v1_1))
def Z1 (c : Dev nD) : sProp 𝕄 := iprop(pt c (Memref.whole main_arg0) (V c main_arg0) ∗ pt c (Memref.whole main_arg1) (V c main_arg1))

/-- The thread state between two items: every unscoped buffer at a valuation, and nothing owed. -/
def st (W : Valuation τ sig (Elt F)) (c : Dev nD) : sProp 𝕄 :=
  iprop(StableHlo.held (c : Thread nD τ) (Pipeline.ucRefs τ sig) W ∗ ∃ Wt, owes (c : Thread nD τ) (0 : CellTallies nD τ sig Unit) Wt)

set_option backward.isDefEq.respectTransparency.types false in
/-- The staging region, entered at `V` and left at `Vp0 V`. -/
def reg0 : RDat.RegionSeg (pcfgs (F := F)) adm (rdats V V') () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 V c).loose.toR
  hwaits := RDat.hwaits_of_owed_zero _ _ _ _ L₀ lv₀ 0 fun _ _ => rfl
  pre c := st (V c) c
  post c := st (Vp0 V c) c
  X _ := BI.emp
  Y _ := BI.emp
  Z c := Pipeline.unscopedRest (Ix := Unit) (Name := ℕ) (U := UU) (Lvl := ℕ) spec0 c (fun b => V c b)
  hentry c := by
    rw [Pipeline.ownSems0_none]
    have hsplit := RDat.arrays_of_unscopedBufs (p := 0) (pcfgs (F := F)) adm (rdats V V') launch0.win launch0.arr_whole c
      ((pdats V V' 0 c).share_full fun _ => rfl) (fun b => V c b) fun _ => rfl
    unfold st
    rw [← Pipeline.unscopedBufs_held (Ix := Unit) (Name := ℕ) (U := UU) (Lvl := ℕ) c (V c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats V V' 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (rdats V V' 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hnamed : (rdats V V' 0 c).arraysAt cfg0.N ⊢ (pdats V V' 0 c).arrays ((dat0 V c).arrAt · cfg0.N) := arraysAt_named (rdats V V' 0 c) cfg0.N ((dat0 V c).arrAt · cfg0.N) (fun w f h => (dat0 V c).toR_arrAt w _ f h)
    have hjoin := Pipeline.unscopedBufs_of_arrays (p := 0) (pcfgs (F := F)) adm (Ix := Unit) (Name := ℕ) (U := UU) (Lvl := ℕ) launch0.win launch0.arr_whole c
      (pdats V V') ((pdats V V' 0 c).share_full fun _ => rfl) (fun b => V c b) (fun b => Vp0 V c b) ((dat0 V c).arrAt · cfg0.N)
      (fun w => by
        fin_cases w
        · exact ((dat0 V c).arrAt_in 0 rfl _).trans (Vp0_of V c main_arg0 (by decide) (by decide)).symm
        · exact ((dat0 V c).arrAt_in 1 rfl _).trans (Vp0_of V c main_v0 (by decide) (by decide)).symm
        · exact (Vp0_L V c).symm
        · exact (Vp0_X1 V c).symm)
      (fun b hb => Vp0_of V c b (fun h => hb (h ▸ Finset.mem_image.mpr ⟨2, Finset.mem_univ _, rfl⟩)) (fun h => hb (h ▸ Finset.mem_image.mpr ⟨3, Finset.mem_univ _, rfl⟩)))
    unfold st
    rw [← Pipeline.unscopedBufs_held (Ix := Unit) (Name := ℕ) (U := UU) (Lvl := ℕ) c (Vp0 V c)]
    iintro ⟨Ha, HO, -, Hrest⟩
    ihave Ha := hnamed $$ Ha
    imodintro
    isplitl [Ha Hrest]
    · iapply hjoin; isplitl [Ha]; (· iexact Ha); iexact Hrest
    unfold RDat.owesAt Pipeline.owesWithin
    icases HO with ⟨%W, -, HO⟩; iexists W; iexact HO

set_option backward.isDefEq.respectTransparency.types false in
/-- The recurrence region, entered at `V'` and left at `Vp1 V'`. -/
def reg1 : RDat.RegionSeg (pcfgs (F := F)) adm (rdats V V') () defs₀ Variants.none L₀ lv₀ 1 where
  win := launch1.win.to₀
  block_pos := launch1.block_pos
  stage_whole := launch1.stage_whole
  K := Fin 2
  osem := osem1
  ho := ownSemFacts1
  hbody c := (body_obligation1 V' c).toRRel
  hwaits := RDat.hwaits_of_owed_zero _ _ _ _ L₀ lv₀ 1 fun _ _ => rfl
  pre c := st (V' c) c
  post c := st (Vp1 V' c) c
  X c := X1 V' c
  Y c := Y1 V' c
  Z c := Z1 V' c
  hentry c := by
    rw [ownSems1_eq]
    have hsplit := RDat.arrays_of_unscopedBufs (p := 1) (pcfgs (F := F)) adm (rdats V V') launch1.win launch1.arr_whole c
      ((pdats V V' 1 c).share_full fun _ => rfl) (fun b => V' c b) fun _ => rfl
    have hrest := unscopedRest1_eq (Ix := Unit) (Name := ℕ) (U := UU) (Lvl := ℕ) c (fun b => V' c b)
    unfold st X1 Z1
    rw [← Pipeline.unscopedBufs_held (Ix := Unit) (Name := ℕ) (U := UU) (Lvl := ℕ) c (V' c)]
    iintro ⟨⟨Hub, HO⟩, ⟨Hd0, Hd1⟩, -⟩
    ihave H := hsplit $$ Hub
    icases H with ⟨Ha, Hrest⟩
    ihave Hrest := (Entails.of_eq hrest) $$ Hrest
    icases Hrest with ⟨H0, H1, HX, HX1⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hd0 Hd1 HX HX1]
    · isplitl [Hd0]; · iexact Hd0
      isplitl [Hd1]; · iexact Hd1
      isplitl [HX]; · iexact HX
      iexact HX1
    isplitl [H0]; · iexact H0
    iexact H1
  hin c := by
    have hs := scopedRest1_eq (Ix := Unit) (Name := ℕ) (U := UU) (Lvl := ℕ) (Val := Elt F) c
    show iprop(_ ∗ _ ∗ _) ⊢ Phi1 V' c 0
    unfold X1 Phi1
    iintro ⟨⟨Hd0, Hd1, HX, HX1⟩, -, Hr⟩
    ihave Hr := (Entails.of_eq hs) $$ Hr
    icases Hr with ⟨Ha, Hb, Hc, Hd, He, Hf, Hg, ⟨%T, HT⟩, ⟨%S, HS⟩⟩
    iexists T; iexists S
    isplitr; · ipureintro; exact Or.inl rfl
    isplitl [HT]; · iexact HT
    isplitl [HS]; · iexact HS
    isplitl [Hd0]; · iexact Hd0
    isplitl [Hd1]; · iexact Hd1
    isplitl [HX]; · iexact HX
    isplitl [HX1]; · iexact HX1
    isplitl [Ha]; · iexact Ha
    isplitl [Hb]; · iexact Hb
    isplitl [Hc]; · iexact Hc
    isplitl [Hd]; · iexact Hd
    isplitl [He]; · iexact He
    isplitl [Hf]; · iexact Hf
    iexact Hg
  hout c := by
    have hs := scopedRest1_eq (Ix := Unit) (Name := ℕ) (U := UU) (Lvl := ℕ) (Val := Elt F) c
    rw [ownSems1_eq]
    show Phi1 V' c cfg1.N ⊢ iprop(_ ∗ _ ∗ Pipeline.scopedRest spec1 c)
    rw [hs]
    unfold Y1 Phi1
    iintro ⟨%T, %S, -, HT, HS, Hd0, Hd1, HX, HX1, Ha, Hb, Hc, Hd, He, Hf, Hg⟩
    isplitl [HX HX1]
    · isplitl [HX]; · iexact HX
      iexact HX1
    isplitl [Hd0 Hd1]
    · isplitl [Hd0]; · iexact Hd0
      iexact Hd1
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [HT]; · iexists T; iexact HT
    iexists S; iexact HS
  hexit c := by
    have hnamed : (rdats V V' 1 c).arraysAt cfg1.N ⊢ (pdats V V' 1 c).arrays (fun w => Vp1 V' c (Pipeline.arrRef spec1 w)) := arraysAt_named (rdats V V' 1 c) cfg1.N (fun w => Vp1 V' c (Pipeline.arrRef spec1 w)) (fun w f h => by
      fin_cases w
      · exact (cast (congrFun (RDat.ArrAt_in ((dat1 V' c).toRRel fgt1 (Rl1 V' c)) 0 rfl _) f) h : f = V' c main_arg2).trans (Vp1_of V' c main_arg2 (by decide)).symm
      · exact (cast (congrFun (RDat.ArrAt_in ((dat1 V' c).toRRel fgt1 (Rl1 V' c)) 1 rfl _) f) h : f = V' c main_v1_0).trans (Vp1_of V' c main_v1_0 (by decide)).symm
      · exact (arr2_final V' c f h).trans (Vp1_out V' c).symm)
    have hrest := unscopedRest1_eq (Ix := Unit) (Name := ℕ) (U := UU) (Lvl := ℕ) c (fun b => V' c b)
    have hjoin := Pipeline.unscopedBufs_of_arrays (p := 1) (pcfgs (F := F)) adm (Ix := Unit) (Name := ℕ) (U := UU) (Lvl := ℕ) launch1.win launch1.arr_whole c
      (pdats V V') ((pdats V V' 1 c).share_full fun _ => rfl) (fun b => V' c b) (fun b => Vp1 V' c b) (fun w => Vp1 V' c (Pipeline.arrRef spec1 w))
      (fun w => rfl)
      (fun b hb => Vp1_of V' c b (fun h => hb (h ▸ Finset.mem_image.mpr ⟨2, Finset.mem_univ _, rfl⟩)))
    unfold st Y1 Z1
    rw [← Pipeline.unscopedBufs_held (Ix := Unit) (Name := ℕ) (U := UU) (Lvl := ℕ) c (Vp1 V' c)]
    iintro ⟨Ha, HO, ⟨HX, HX1⟩, ⟨H0, H1⟩⟩
    ihave Ha := hnamed $$ Ha
    ihave Hrest := (Entails.of_eq hrest.symm) $$ [HX HX1 H0 H1]
    · isplitl [H0]; · iexact H0
      isplitl [H1]; · iexact H1
      isplitl [HX]; · iexact HX
      iexact HX1
    imodintro
    isplitl [Ha Hrest]
    · iapply hjoin; isplitl [Ha]; (· iexact Ha); iexact Hrest
    unfold RDat.owesAt Pipeline.owesWithin
    icases HO with ⟨%W, -, HO⟩; iexists W; iexact HO

end Cert.KernelIdeal.Hand
end
-- ==== Proof.Run.lean ====
module

public import proofs.«01_k».proof.Proof.Segments

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

variable (m : (ℓ : Loc nD τ sig) → Buf (Elt F) ℓ)

/-- The contents the recurrence region is entered at. -/
abbrev W2 (c : Dev nD) : Valuation τ sig (Elt F) := Vp0 (V1 m) c
/-- The contents at the end. -/
abbrev W3 (c : Dev nD) : Valuation τ sig (Elt F) := Vp1 (W2 m) c
/-- The result: the whole sum of the staged inputs. -/
abbrev result (c : Dev nD) : S10000x128.Idx → Elt F .f32 := sumAt (W2 m) c 5

theorem W3_arg (c : Dev nD) (r : Ref sig .tc) (h : r ∉ ([main_v0, main_v1_0, main_v1_1, main_v2] : List (Ref sig .tc))) :
    W3 m c r = m ((c : Thread nD τ).loc r) := by
  simp only [List.mem_cons, List.not_mem_nil, or_false, not_or] at h
  refine (Vp1_of (W2 m) c r h.2.2.2).trans ((Vp0_of (V1 m) c r h.2.1 h.2.2.1).trans ((V1_of m c r ?_).trans rfl))
  simp only [hostOps0_W, List.mem_cons, List.not_mem_nil, or_false]
  exact h.1

/-- What rides beside the buffers through the host stretch: nothing owed. -/
def rest (c : Dev nD) : sProp 𝕄 := iprop(∃ Wt, owes (c : Thread nD τ) (0 : CellTallies nD τ sig Unit) Wt)

/-- @main as its three items. -/
abbrev items (c : Dev nD) : List (RDat.Seg (pcfgs (F := F)) adm (rdats (V1 m) (W2 m)) () defs₀ Variants.none L₀ lv₀) :=
  [.host (seg0 m Variants.none L₀ lv₀ fun _ => rest), .region (reg0 (V1 m) (W2 m)), .region (reg1 (V1 m) (W2 m))]

/-- Where the pipelines' protocol lives in the algebra, and what the launch makes of it. -/
abbrev EP : Emb (UR sig nD τ) 𝕄 := embL
def u₀ : UU := (initOf (Pipeline.cells cfgs cellOf_inj) (Pipeline.launchToks cfgs cellOf_inj), 1)

set_option backward.isDefEq.respectTransparency.types false in
/-- Every weakly fair execution of @main from memory `m` with zero counters terminates; at the end the result's array holds the
    whole sum, every argument is as launched, and every counter is zero. -/
theorem run (ρ : Dev nD → PrngReg) :
    θ_run defs (onTc (τ := τ) (main (F := F))) ⟨m, fun _ => 0, ρ⟩ (fun r => (∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine RDat.θ_run_regions_kit_dev_sems (pcfgs (F := F)) adm (rdats (V1 m) (W2 m)) () cellOf_inj EP defs₀ Variants.none L₀ lv₀ m ρ main
    (items m)
    (fun c Q => by
      rewrite [main_chain c, RDat.Seg.run_eq_chain,
        show (items m c).map RDat.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [items, RDat.Seg.pipes_host, RDat.Seg.pipes_region, RDat.Seg.pipes_nil]; decide) (fun _ => 0) (fun _ _ => rfl) (fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (W3 m c))
    (hch := fun c => ⟨.rfl, .rfl, .rfl, .rfl⟩)
    (hinit := ?_)
    (QY := fun c s => s.mem ((c.tc : Thread nD τ).loc main_v2) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · refine Pipeline.initEach L₀ lv₀ fun c => ?_
    rw [show unscopedBufs c (fun b => m ((c : Thread nD τ).loc b)) = StableHlo.held (c : Thread nD τ) (Pipeline.ucRefs τ sig) (V0 m c) from Pipeline.unscopedBufs_held c (V0 m c)]
    unfold rest
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      exact ⟨(h (Proc.devRef .tc main_v2) (Finset.mem_filter.mpr ⟨StableHlo.devRef_mem_tcRefs main_v2, by decide⟩)).trans (Vp1_out (W2 m) c),
        (h (Proc.devRef .tc main_arg0) (Finset.mem_filter.mpr ⟨StableHlo.devRef_mem_tcRefs main_arg0, by decide⟩)).trans (W3_arg m c main_arg0 (by decide)),
        (h (Proc.devRef .tc main_arg1) (Finset.mem_filter.mpr ⟨StableHlo.devRef_mem_tcRefs main_arg1, by decide⟩)).trans (W3_arg m c main_arg1 (by decide)),
        (h (Proc.devRef .tc main_arg2) (Finset.mem_filter.mpr ⟨StableHlo.devRef_mem_tcRefs main_arg2, by decide⟩)).trans (W3_arg m c main_arg2 (by decide))⟩
    · iexact HSI

end Cert.KernelIdeal.Hand
end
-- ==== Proof.Cheb.lean ====
module

public import Idealize.ShloMosaic.Lib.Pointwise
public import Idealize.ShloMosaic.Lib.ValueIdxCore
public import Idealize.ShloMosaic.Lib.MatmulPlain
public import Idealize.ShloMosaic.Lib.StackMember

@[expose] public section

noncomputable section

namespace Cert.Cheb

/-- The number two, as the word both programs print for it reads. -/
abbrev two : EReal := Idealize.ShloMosaic.Ideal.ofBits .f32 0x40000000#32

/-- The Chebyshev terms of one feature column `x` under the Laplacian `l`: the column, its product with `l`, then twice
    the product of the term before less the one before that. -/
def col {n : ℕ} (l : Fin n → Fin n → EReal) (x : Fin n → EReal) : ℕ → Fin n → EReal
  | 0 => x
  | 1 => fun r => ∑ j, l r j * x j
  | k + 2 => fun r => two * (∑ j, l r j * col l x (k + 1) j) - col l x k r

/-- The terms weighed by the coefficients `C` and summed from the left, the first `s + 3` of them. -/
def sum {n : ℕ} (l : Fin n → Fin n → EReal) (x : Fin n → EReal) (C : ℕ → EReal) : ℕ → Fin n → EReal
  | 0 => fun r => C 0 * col l x 0 r + C 1 * col l x 1 r + C 2 * col l x 2 r
  | s + 1 => fun r => sum l x C s r + C (s + 3) * col l x (s + 3) r

end Cert.Cheb
end
-- ==== Proof.RefValue.lean ====
module

public import proofs.«01_k».proof.Proof.Gen.ReferenceIdeal.Run
public import proofs.«01_k».proof.Proof.Cheb

@[expose] public section

set_option maxRecDepth 16384

noncomputable section

namespace Cert.ReferenceIdeal.Hand

open Cert.ReferenceIdeal Cert.ReferenceIdeal.Gen Cert.ReferenceIdeal.Value
open Idealize.ShloMosaic hiding ix1 ix2 ix3
open Idealize.ShloMosaic.TcCoe Idealize.ShloMosaic.ValueIdx
open Idealize.SL Idealize.SL.Sem

/-- The terms of a chunk of columns, in the reference's operations. -/
def terms (L : FVec Ideal S10000x10000 .f32) (X : FVec Ideal S10000x64 .f32) : ℕ → FVec Ideal S10000x64 .f32
  | 0 => X
  | 1 => Host.dotGeneral dot_S10000x10000_S10000x64_S10000x64_1_0_0_1_n_n none L X
  | k + 2 => subf (mulf (broadcastInDim S10000x64 ![] bcast_S_S10000x64 (constant S_ .f32 0x40000000#32))
      (Host.dotGeneral dot_S10000x10000_S10000x64_S10000x64_1_0_0_1_n_n none L (terms L X (k + 1)))) (terms L X k)

/-- One coefficient spread over a chunk. -/
def spread (C : FVec Ideal S1 .f32) : FVec Ideal S10000x64 .f32 :=
  broadcastInDim S10000x64 ![] bcast_S_S10000x64 (shapeCast _ C shapeCasts_S1_S_)

/-- What the reference makes of one chunk of columns. -/
def chunk (L : FVec Ideal S10000x10000 .f32) (C : FVec Ideal S8 .f32) (X : FVec Ideal S10000x64 .f32) : FVec Ideal S10000x64 .f32 :=
  addf (addf (addf (addf (addf (addf (addf
    (mulf (spread (extractStridedSlice S1 ![0] C slices_S8_S1_0)) (terms L X 0))
    (mulf (spread (extractStridedSlice S1 ![1] C slices_S8_S1_1)) (terms L X 1)))
    (mulf (spread (extractStridedSlice S1 ![2] C slices_S8_S1_2)) (terms L X 2)))
    (mulf (spread (extractStridedSlice S1 ![3] C slices_S8_S1_3)) (terms L X 3)))
    (mulf (spread (extractStridedSlice S1 ![4] C slices_S8_S1_4)) (terms L X 4)))
    (mulf (spread (extractStridedSlice S1 ![5] C slices_S8_S1_5)) (terms L X 5)))
    (mulf (spread (extractStridedSlice S1 ![6] C slices_S8_S1_6)) (terms L X 6)))
    (mulf (spread (extractStridedSlice S1 ![7] C slices_S8_S1_7)) (terms L X 7))

/-- A chunk's terms, column by column, are the Chebyshev terms of that column. -/
theorem terms_apply (L : FVec Ideal S10000x10000 .f32) (X : FVec Ideal S10000x64 .f32) (k : ℕ) (r : Fin 10000) (d : Fin 64) :
    terms L X k (ix2 r d) = Cheb.col (fun r j => L (ix2 r j)) (fun j => X (ix2 j d)) k r := by
  have dot : ∀ (Y : FVec Ideal S10000x64 .f32) (r : Fin 10000),
      Host.dotGeneral dot_S10000x10000_S10000x64_S10000x64_1_0_0_1_n_n none L Y (ix2 r d) = ∑ j : Fin 10000, L (ix2 r j) * Y (ix2 j d) :=
    fun Y r => StackMember.dotGeneral_plain_apply none L Y r d
  induction k using Nat.strong_induction_on generalizing r with
  | _ k ih =>
    match k, ih with
    | 0, _ => rfl
    | 1, _ => exact dot X r
    | k + 2, ih =>
      have h1 := ih (k + 1) (by omega)
      have h0 := ih k (by omega) r
      exact congrArg₂ (fun a b : EReal => Cheb.two * a - b)
        ((dot _ r).trans (Finset.sum_congr rfl fun j _ => congrArg (L (ix2 r j) * ·) (h1 j))) h0

/-- A spread coefficient reads as the coefficient. -/
theorem spread_apply (C : FVec Ideal S8 .f32) (k : Fin 8) (h) (r : Fin 10000) (d : Fin 64) :
    spread (extractStridedSlice S1 ![k.val] C h) (ix2 r d) = C (ix1 k) := by
  unfold spread
  pointwise
  rfl

/-- A chunk's result, column by column, is the weighed sum of the Chebyshev terms of that column. -/
theorem chunk_apply (L : FVec Ideal S10000x10000 .f32) (C : FVec Ideal S8 .f32) (X : FVec Ideal S10000x64 .f32) (r : Fin 10000) (d : Fin 64) :
    chunk L C X (ix2 r d)
      = Cheb.sum (fun r j => L (ix2 r j)) (fun j => X (ix2 j d)) (fun k => C (ix1 ⟨k % 8, Nat.mod_lt _ (by decide)⟩)) 5 r := by
  have s : ∀ (k : Fin 8) (h) (T : ℕ), T = k.val → mulf (spread (extractStridedSlice S1 ![k.val] C h)) (terms L X T) (ix2 r d)
      = C (ix1 ⟨T % 8, Nat.mod_lt _ (by decide)⟩) * Cheb.col (fun r j => L (ix2 r j)) (fun j => X (ix2 j d)) T r := by
    rintro k h _ rfl
    refine (congrArg₂ (· * ·) (spread_apply C k h r d) (terms_apply L X k.val r d) : _).trans ?_
    simp only [Nat.mod_eq_of_lt k.isLt]
  simp only [Cheb.sum, ← s 0 slices_S8_S1_0 0 rfl, ← s 1 slices_S8_S1_1 1 rfl, ← s 2 slices_S8_S1_2 2 rfl, ← s 3 slices_S8_S1_3 3 rfl,
    ← s 4 slices_S8_S1_4 4 rfl, ← s 5 slices_S8_S1_5 5 rfl, ← s 6 slices_S8_S1_6 6 rfl, ← s 7 slices_S8_S1_7 7 rfl]
  rfl

/-- A chunk of columns reads the features at its own columns. -/
theorem slice_apply (X : FVec Ideal S10000x128 .f32) (o : ℕ) (h) (j : Fin 10000) (d : Fin 64) (d' : Fin 128) (e : d'.val = o + d.val) :
    extractStridedSlice S10000x64 ![0, o] X h (ix2 j d) = X (ix2 j d') := by
  refine congrArg X (funext fun a => Fin.ext ?_)
  match a with
  | ⟨0, _⟩ => exact Nat.zero_add _
  | ⟨1, _⟩ => exact e.symm

/-- The reference's result is its two chunks laid side by side. -/
theorem res_eq (m : (ℓ : Loc nD τ sig) → Buf (Elt Ideal) ℓ) (c : Dev nD) :
    res_out0 m c = fn_main_v130
      (chunk (m ((c.tc : Thread nD τ).loc main_arg0)) (m ((c.tc : Thread nD τ).loc main_arg2))
        (extractStridedSlice S10000x64 ![0, 0] (m ((c.tc : Thread nD τ).loc main_arg1)) slices_S10000x128_S10000x64_0_0))
      (chunk (m ((c.tc : Thread nD τ).loc main_arg0)) (m ((c.tc : Thread nD τ).loc main_arg2))
        (extractStridedSlice S10000x64 ![0, 64] (m ((c.tc : Thread nD τ).loc main_arg1)) slices_S10000x128_S10000x64_0_64)) := by
  simp only [chunk, terms, spread, fn_main_v130]
  rfl

/-- The reference's result at row `r` and column `d`: the weighed sum of the Chebyshev terms of column `d`. -/
theorem res_apply (m : (ℓ : Loc nD τ sig) → Buf (Elt Ideal) ℓ) (c : Dev nD) (r : Fin 10000) (d : Fin 128) :
    (res_out0 m c : FVec Ideal S10000x128 .f32) (ix2 r d)
      = Cheb.sum (fun r j => (m ((c.tc : Thread nD τ).loc main_arg0) : FVec Ideal S10000x10000 .f32) (ix2 r j))
          (fun j => (m ((c.tc : Thread nD τ).loc main_arg1) : FVec Ideal S10000x128 .f32) (ix2 j d))
          (fun k => (m ((c.tc : Thread nD τ).loc main_arg2) : FVec Ideal S8 .f32) (ix1 ⟨k % 8, Nat.mod_lt _ (by decide)⟩)) 5 r := by
  rw [res_eq]
  unfold fn_main_v130
  by_cases h : d.val < 64
  · refine (concatenate_pair_apply_left 1 _ _ concatenates_S10000x64_S10000x64_S10000x128_d1 (ix2 r d) rfl (ix2 r ⟨d.val, h⟩)
      fun b => ?_).trans ?_
    · match b with
      | ⟨0, _⟩ => rfl
      | ⟨1, _⟩ => rfl
    · rw [chunk_apply]
      refine congrArg (fun x => Cheb.sum _ x _ 5 r) (funext fun j => ?_)
      exact slice_apply _ 0 _ j ⟨d.val, h⟩ d (by simp)
  · refine (concatenate_pair_apply_right 1 _ _ concatenates_S10000x64_S10000x64_S10000x128_d1 (ix2 r d) rfl rfl (ix2 r ⟨d.val - 64, by omega⟩)
      (fun b hb => ?_) ?_).trans ?_
    · match b, hb with
      | ⟨0, _⟩, _ => rfl
      | ⟨1, _⟩, hb => exact absurd rfl hb
    · show d.val - 64 + 64 = d.val
      omega
    · rw [chunk_apply]
      refine congrArg (fun x => Cheb.sum _ x _ 5 r) (funext fun j => ?_)
      exact slice_apply _ 64 _ j ⟨d.val - 64, by omega⟩ d (by simp only; omega)

/-- Every execution of the reference ends with its result so, its arguments unchanged and its counters at zero. -/
theorem run_sem (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v130) = res_out0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 := by
  exact (θ_run defs _ _).mono (fun r h => ⟨h, sem_eq_zero_of_no_sems (by decide) r.2⟩) (run m ρ)

end Cert.ReferenceIdeal.Hand
end
-- ==== Proof.Value.lean ====
module

public import proofs.«01_k».proof.Proof.Run
public import proofs.«01_k».proof.Proof.Cheb
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic hiding ix1 ix2 ix3
open Idealize.ShloMosaic.TcCoe Idealize.ShloMosaic.ValueIdx
open Idealize.SL Idealize.SL.Sem
open Idealize.ShloMosaic.Pipeline (Dat)

/-! ## The arguments, and the staged arrays, at the ideal values -/

variable (m : (ℓ : Loc nD τ sig) → Buf (Elt Ideal) ℓ) (c : Dev nD)

/-- The Laplacian, the features and the coefficients as launched. -/
abbrev argL : FVec Ideal S10000x10000 .f32 := m ((c : Thread nD τ).loc main_arg0)
abbrev argX : FVec Ideal S10000x128 .f32 := m ((c : Thread nD τ).loc main_arg1)
abbrev argC : FVec Ideal S8 .f32 := m ((c : Thread nD τ).loc main_arg2)
/-- The Laplacian by row and column; one column of the features; a coefficient by its number. -/
abbrev lap : Fin 10000 → Fin 10000 → EReal := fun r j => argL m c (ix2 r j)
abbrev feat (d : Fin 128) : Fin 10000 → EReal := fun j => argX m c (ix2 j d)
abbrev coeff : ℕ → EReal := fun k => argC m c (ix1 ⟨k % 8, Nat.mod_lt _ (by decide)⟩)

/-- The staging kernel's first input is the Laplacian as launched. -/
theorem V1_L : V1 m c main_arg0 = argL m c := (V1_of m c main_arg0 (by decide)).trans rfl

/-- Its second is the features, the narrowing on the host the identity. -/
theorem V1_X : V1 m c main_v0 = argX m c := by
  show StableHlo.after hostOps0 (V0 m c) main_v0 = _
  after_results_simp
  rfl

theorem widx0_0 : ∀ t : Fin cfg0.N, win0_0.index t = ![t.val, 0] := (by decide +kernel : ∀ t : Fin grid0.N, _)
theorem widx0_1 : ∀ t : Fin cfg0.N, win0_1.index t = ![0, 0] := (by decide +kernel : ∀ t : Fin grid0.N, _)
theorem widx0_2 : ∀ t : Fin cfg0.N, win0_2.index t = ![t.val, 0] := (by decide +kernel : ∀ t : Fin grid0.N, _)
theorem widx0_3 : ∀ t : Fin cfg0.N, win0_3.index t = ![t.val, 0] := (by decide +kernel : ∀ t : Fin grid0.N, _)

/-- The accumulator both products start from is zero. -/
theorem zero_constant (s : Shape) (y : s.Idx) : (constant s .f32 0x00000000#32 : FVec Ideal s .f32) y = (0 : EReal) := by
  pointwise

/-- A block of 400 rows of the Laplacian times the features, at a row and a column. -/
theorem pay2_apply (A : FVec Ideal S400x10000 .f32) (B : FVec Ideal S10000x128 .bf16) (r : Fin 400) (d : Fin 128) :
    k0_pay2 (F := Ideal) A B (ix2 r d) = ∑ j : Fin 10000, A (ix2 r j) * B (ix2 j d) := by
  refine (Ideal.matmul_plain_apply none (k0_pay1 (F := Ideal) A) (shapeCast S10000x128 B shapeCasts_S10000x128_S10000x128) _ r d).trans ?_
  rw [shapeCast_self, zero_constant]
  exact zero_add (M := EReal) _

/-- The staged copy of the Laplacian is the Laplacian. -/
theorem inL_eq : inL (W2 m) c = argL m c := by
  refine (Vp0_L (V1 m) c).trans ?_
  refine (dat0 (V1 m) c).arrAt_eq_of_covers 2 _ (by decide +kernel) fun t hf y => ?_
  blk_simp
  have e0 := widx0_0 t
  have e2 := widx0_2 t
  show V1 m c main_arg0 (((cfg0.win 0).blk t).view.emb y) = _
  rw [V1_L]
  refine congrArg (argL m c) ?_
  blk_ext [e0, e2]

/-- The staged features are the features. -/
theorem inX_eq : inX (W2 m) c = argX m c :=
  (Vp0_of (V1 m) c main_v0 (by decide) (by decide)).trans (V1_X m c)

/-- The coefficients are not touched. -/
theorem inC_eq : inC (W2 m) c = argC m c :=
  (Vp0_of (V1 m) c main_arg2 (by decide) (by decide)).trans ((V1_of m c main_arg2 (by decide)).trans rfl)

/-- The staged first term is the Laplacian's product with the features. -/
theorem inX1_eq : inX1 (W2 m) c = fun y => Cheb.col (lap m c) (feat m c (y 1)) 1 (y 0) := by
  refine (Vp0_X1 (V1 m) c).trans ?_
  refine (dat0 (V1 m) c).arrAt_eq_of_covers 3 _ (by decide +kernel) fun t hf y => ?_
  blk_simp
  have e0 := widx0_0 t
  have e1 := widx0_1 t
  have e3 := widx0_3 t
  obtain ⟨r, d, rfl⟩ : ∃ r d, y = ix2 r d := ⟨_, _, ValueIdx.eq_ix2 y⟩
  refine (pay2_apply (stgL (V1 m) c t) (stgX (V1 m) c t) r d).trans ?_
  refine Finset.sum_congr rfl fun j _ => ?_
  have hl : stgL (V1 m) c t (ix2 r j) = argL m c (ix2 (((win0_3.blk t).view.emb (ix2 r d)) 0) j) := by
    show V1 m c main_arg0 (((cfg0.win 0).blk t).view.emb (ix2 r j)) = _
    rw [V1_L]
    refine congrArg (argL m c) ?_
    funext a
    refine Fin.ext ?_
    match a with
    | ⟨0, _⟩ =>
      show (((cfg0.win 0).blk t).view.emb (ix2 r j) 0 : ℕ) = (((cfg0.win 3).blk t).view.emb (ix2 r d) 0 : ℕ)
      blk_simp [e0, e3]
      rfl
    | ⟨1, _⟩ => blk_simp [e0]
  have hx : stgX (V1 m) c t (ix2 j d) = argX m c (ix2 j (((win0_3.blk t).view.emb (ix2 r d)) 1)) := by
    show V1 m c main_v0 (((cfg0.win 1).blk t).view.emb (ix2 j d)) = _
    rw [V1_X]
    refine congrArg (argX m c) ?_
    funext a
    refine Fin.ext ?_
    match a with
    | ⟨0, _⟩ => blk_simp [e1]
    | ⟨1, _⟩ =>
      show (((cfg0.win 1).blk t).view.emb (ix2 j d) 1 : ℕ) = (((cfg0.win 3).blk t).view.emb (ix2 r d) 1 : ℕ)
      blk_simp [e1, e3]
      rfl
  exact congrArg₂ (fun a b : EReal => a * b) hl hx

/-! ## The recurrence at the ideal values -/

/-- A row block of a term, out of its slot. -/
theorem rows_cast (b : Fin 10) (A : FVec Ideal S10000x128 .bf16) (r : Fin 1000) (d : Fin 128) :
    shapeCast S1000x128 (rows (F := Ideal) b A) shapeCasts_S1x1000x128_S1000x128 (ix2 r d) = A (ix2 (rowOf b r) d) := by
  pointwise
  rfl

/-- A whole term, out of its slot. -/
theorem slab_cast (A : FVec Ideal S10000x128 .bf16) (r : Fin 10000) (d : Fin 128) :
    shapeCast S10000x128 (slab (F := Ideal) A) shapeCasts_S1x10000x128_S10000x128 (ix2 r d) = A (ix2 r d) := by
  pointwise
  rfl

/-- A row block put into its slot. -/
theorem slot_cast (M : FVec Ideal S1000x128 .bf16) (r : Fin 1000) (d : Fin 128) :
    shapeCast S1x1000x128 M shapeCasts_S1000x128_S1x1000x128 (ix3 (0 : Fin 1) r d) = M (ix2 r d) := by
  pointwise
  rfl

/-- A block of 1000 rows times a whole term, at a row and a column. -/
theorem pay6_apply (A : FVec Ideal S1000x10000 .bf16) (B : FVec Ideal S10000x128 .bf16) (r : Fin 1000) (d : Fin 128) :
    k1_pay6 (F := Ideal) A (slab (F := Ideal) B) (ix2 r d) = ∑ j : Fin 10000, A (ix2 r j) * B (ix2 j d) := by
  refine (Ideal.matmul_plain_apply none (shapeCast S1000x10000 A shapeCasts_S1000x10000_S1000x10000)
    (shapeCast S10000x128 (slab (F := Ideal) B) shapeCasts_S1x10000x128_S10000x128 : FVec Ideal S10000x128 .bf16) _ r d).trans ?_
  rw [shapeCast_self, zero_constant]
  exact (zero_add (M := EReal) _).trans (Finset.sum_congr rfl fun j _ => congrArg (fun b : EReal => A (ix2 r j) * b) (slab_cast B j d))

/-- Twice a product less an older term, at row `r`. -/
theorem pay2_row (M : FVec Ideal S1000x128 .f32) (A : FVec Ideal S10000x128 .bf16) (r : Fin 10000) (d : Fin 128) :
    k1_pay2 (F := Ideal) M (rows (F := Ideal) (rowBlk r) A) (ix2 (rowIn r) d) = Cheb.two * M (ix2 (rowIn r) d) - A (ix2 r d) := by
  refine congrArg (fun a : EReal => Cheb.two * M (ix2 (rowIn r) d) - a) ((rows_cast (rowBlk r) A (rowIn r) d).trans ?_)
  rw [rowOf_rowBlk]

/-- The stored term, the first stored sum and the later ones, at a row and a column. -/
theorem pay3_apply (M : FVec Ideal S1000x128 .f32) (A : FVec Ideal S1x1000x128 .bf16) (r : Fin 1000) (d : Fin 128) :
    k1_pay3 (F := Ideal) M A (ix3 (0 : Fin 1) r d) = k1_pay2 (F := Ideal) M A (ix2 r d) := by
  unfold k1_pay3
  exact slot_cast _ r d

theorem pay4_apply (M : FVec Ideal S1000x128 .f32) (A B : FVec Ideal S1x1000x128 .bf16) (u v w : EReal) (y : S1000x128.Idx) :
    k1_pay4 (F := Ideal) M A u v B w y = u * shapeCast S1000x128 A shapeCasts_S1x1000x128_S1000x128 y
      + v * shapeCast S1000x128 B shapeCasts_S1x1000x128_S1000x128 y + w * k1_pay2 (F := Ideal) M A y := by
  unfold k1_pay4
  rw [shapeCast_self]
  rfl

theorem pay5_apply (M S : FVec Ideal S1000x128 .f32) (A : FVec Ideal S1x1000x128 .bf16) (u : EReal) (y : S1000x128.Idx) :
    k1_pay5 (F := Ideal) M A S u y = (S y + u * k1_pay2 (F := Ideal) M A y : EReal) := by
  unfold k1_pay5
  rw [shapeCast_self]
  rfl

variable (Lp : FVec Ideal S10000x10000 .bf16) (X : FVec Ideal S10000x128 .bf16) (C : ℕ → EReal)

/-- The Laplacian by row and column, and a feature column. -/
abbrev lapOf : Fin 10000 → Fin 10000 → EReal := fun r j => Lp (ix2 r j)
abbrev featOf (d : Fin 128) : Fin 10000 → EReal := fun j => X (ix2 j d)
/-- The first product, as an array. -/
abbrev first : FVec Ideal S10000x128 .bf16 := fun y => Cheb.col (lapOf Lp) (featOf X (y 1)) 1 (y 0)

/-- Twice the product of the term before less the one before that, where both are Chebyshev terms. -/
theorem step_row (k : ℕ) (A B : FVec Ideal S10000x128 .bf16)
    (hA : ∀ r d, A (ix2 r d) = Cheb.col (lapOf Lp) (featOf X d) (k + 1) r) (hB : ∀ r d, B (ix2 r d) = Cheb.col (lapOf Lp) (featOf X d) k r)
    (r : Fin 10000) (d : Fin 128) :
    k1_pay2 (F := Ideal) (k1_pay6 (lblk (F := Ideal) Lp (rowBlk r)) (slab (F := Ideal) A)) (rows (F := Ideal) (rowBlk r) B) (ix2 (rowIn r) d)
      = Cheb.col (lapOf Lp) (featOf X d) (k + 2) r := by
  rw [pay2_row, pay6_apply, hB]
  refine congrArg (fun a : EReal => Cheb.two * a - _) (Finset.sum_congr rfl fun j _ => ?_)
  show Lp (ix2 (rowOf (rowBlk r) (rowIn r)) j) * A (ix2 j d) = _
  rw [rowOf_rowBlk, hA]

/-- The kernel's terms are the Chebyshev terms, column by column. -/
theorem term_apply (k : ℕ) (r : Fin 10000) (d : Fin 128) :
    term (F := Ideal) Lp X (first Lp X) k (ix2 r d) = Cheb.col (lapOf Lp) (featOf X d) k r := by
  induction k using Nat.strong_induction_on generalizing r d with
  | _ k ih =>
    match k, ih with
    | 0, _ => rfl
    | 1, _ => rfl
    | k + 2, ih =>
      refine Eq.trans ?_ (step_row Lp X k _ _ (fun r d => ih (k + 1) (by omega) r d) (fun r d => ih k (by omega) r d) r d)
      exact pay3_apply _ _ (rowIn r) d

/-- The kernel's running sums are the weighed sums of the Chebyshev terms, column by column. -/
theorem psum_apply (s : ℕ) (r : Fin 10000) (d : Fin 128) :
    psum (F := Ideal) Lp X (first Lp X) C s (ix2 r d) = Cheb.sum (lapOf Lp) (featOf X d) C s r := by
  induction s with
  | zero =>
    have h := step_row Lp X 0 _ _ (term_apply Lp X 1) (term_apply Lp X 0) r d
    have t0 := (rows_cast (rowBlk r) (term (F := Ideal) Lp X (first Lp X) 0) (rowIn r) d).trans (term_apply Lp X 0 _ d)
    have t1 := (rows_cast (rowBlk r) (term (F := Ideal) Lp X (first Lp X) 1) (rowIn r) d).trans (term_apply Lp X 1 _ d)
    rw [rowOf_rowBlk] at t0 t1
    refine (pay4_apply _ _ _ _ _ _ _).trans ?_
    exact congrArg₂ (fun a b : EReal => a + C 2 * b) (congrArg₂ (fun a b : EReal => C 0 * a + C 1 * b) t0 t1) h
  | succ s ih =>
    have h := step_row Lp X (s + 1) _ _ (term_apply Lp X (s + 2)) (term_apply Lp X (s + 1)) r d
    have i' : rows2 (F := Ideal) (rowBlk r) (psum (F := Ideal) Lp X (first Lp X) C s) (ix2 (rowIn r) d)
        = Cheb.sum (lapOf Lp) (featOf X d) C s r := by
      refine Eq.trans (congrArg (fun r' => psum (F := Ideal) Lp X (first Lp X) C s (ix2 r' d)) ?_) ih
      exact rowOf_rowBlk r
    refine (pay5_apply _ _ _ _ _).trans ?_
    exact congrArg₂ (fun a b : EReal => a + C (s + 3) * b) i' h

/-- The kernel's result at row `r` and column `d`: the weighed sum of the Chebyshev terms of column `d`. -/
theorem result_apply (r : Fin 10000) (d : Fin 128) :
    (result m c : FVec Ideal S10000x128 .f32) (ix2 r d) = Cheb.sum (lap m c) (feat m c d) (coeff m c) 5 r := by
  show psum (inL (W2 m) c) (inX (W2 m) c) (inX1 (W2 m) c) (coef (inC (W2 m) c)) 5 (ix2 r d) = _
  rw [inL_eq, inX_eq, inX1_eq, inC_eq]
  exact psum_apply (argL m c) (argX m c) _ 5 r d

end Cert.KernelIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KRun
public import proofs.«01_k».proof.Proof.Run
public import proofs.«01_k».proof.Proof.RefValue
public import proofs.«01_k».proof.Proof.Value
public import Idealize.ShloMosaic.Adequacy
public import Idealize.ShloMosaic.Init

@[expose] public section

noncomputable section

namespace Cert.Proof

open Idealize.ShloMosaic Idealize.SL.Sem Cert.Kernel

/-- From arguments that agree, the kernel's result and the reference's are the same array: at every row and column the
    weighed sum of the same Chebyshev terms. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Value.res_out0 m' c : FVec Ideal Cert.KernelIdeal.S10000x128 .f32) = Cert.KernelIdeal.Hand.result m c := by
  funext y
  obtain ⟨r, d, rfl⟩ : ∃ r d, y = ValueIdx.ix2 r d := ⟨_, _, ValueIdx.eq_ix2 y⟩
  refine (Cert.ReferenceIdeal.Hand.res_apply m' c r d).trans ((Cert.KernelIdeal.Hand.result_apply m c r d).trans ?_).symm
  rw [h0, h1, h2]

/-- The certificate: each program's run gives its frame, and the two runs at the ideal values end with equal results. -/
theorem claim : Cert.Claim := ⟨Cert.Kernel.Gen.facts, Cert.KernelIdeal.Gen.facts, Cert.ReferenceIdeal.Gen.facts,
  fun m g _ => (θ_run _ _ _).mono (fun _ h => ⟨fun c => (h.1 c).2, h.2⟩) (Cert.Kernel.Hand.run m g),
  fun m g _ => (θ_run _ _ _).mono (fun _ h => ⟨fun c => (h.1 c).2, h.2⟩) (Cert.KernelIdeal.Hand.run m g),
  fun m g _ => (θ_run _ _ _).mono (fun _ h => ⟨fun c => (h.1 c).2, h.2⟩) (Cert.ReferenceIdeal.Hand.run_sem m g),
  trivial,
  fun m g m' g' _ e => ⟨fun c => Cert.KernelIdeal.Hand.result m c,
    (θ_run _ _ _).mono (fun _ h => h.1) (Cert.KernelIdeal.Hand.run m g),
    (θ_run _ _ _).mono (fun _ h c => ⟨(h.1 c).1.trans (result_eq m m' c (e c).1 (e c).2.1 (e c).2.2), (h.1 c).2⟩)
      (Cert.ReferenceIdeal.Hand.run_sem m' g')⟩⟩

end Cert.Proof

end
